-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![2, 4096, 4096]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S2x128x4096 : Shape := ⟨3, ![2, 128, 4096]⟩
abbrev S8x128x4096 : Shape := ⟨3, ![8, 128, 4096]⟩
abbrev S2 : Shape := ⟨1, ![2]⟩
abbrev S8 : Shape := ⟨1, ![8]⟩
abbrev S4 : Shape := ⟨1, ![4]⟩
abbrev S_ : Shape := ⟨0, ![]⟩
abbrev S1 : Shape := ⟨1, ![1]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩
abbrev S1x4096 : Shape := ⟨2, ![1, 4096]⟩

abbrev nBuf : Space → Nat
  | .hbm => 4
  | .vmem => 9
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S4096x4096, .bf16⟩
  | .local _ .vmem, ⟨0, _⟩ => ⟨S4096, .f32⟩
  | .local _ .vmem, ⟨1, _⟩ => ⟨S2x128x4096, .f32⟩
  | .local _ .vmem, ⟨2, _⟩ => ⟨S2x128x4096, .f32⟩
  | .local _ .vmem, ⟨3, _⟩ => ⟨S8x128x4096, .bf16⟩
  | .local _ .vmem, ⟨4, _⟩ => ⟨S8x128x4096, .bf16⟩
  | .local _ .vmem, ⟨5, _⟩ => ⟨S8x128x4096, .bf16⟩
  | .local _ .vmem, ⟨6, _⟩ => ⟨S8x128x4096, .bf16⟩
  | .local _ .vmem, ⟨7, _⟩ => ⟨S8x128x4096, .bf16⟩
  | .local _ .vmem, ⟨8, _⟩ => ⟨S8x128x4096, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 1 73 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_16 : BitVec 32 := 2#32
  let v25 : BitVec 32 := Scalar.muli v6 c2_i32_16
  let v26 : BitVec 32 := Scalar.addi c0_i32 v25
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v27 : BitVec 32 := Scalar.muli v5 c1_i32_17
  let v28 : BitVec 32 := Scalar.addi v26 v27
  v28.toNat
def k0_dev2 (d0 : Dev nD) : Nat :=
  let c0_i32_20 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_19 : BitVec 32 := 2#32
  let v29 : BitVec 32 := Scalar.muli v2 c2_i32_19
  let v30 : BitVec 32 := Scalar.addi c0_i32_20 v29
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_21 : BitVec 32 := 1#32
  let v31 : BitVec 32 := Scalar.muli v7 c1_i32_21
  let v32 : BitVec 32 := Scalar.addi v30 v31
  v32.toNat
def k0_off1 (d0 : Dev nD) (c0_i32_23 : BitVec 32) : Fin 3 → Nat :=
  let c0_i32_24 : BitVec 32 := 0#32
  let c2_i32_9 : BitVec 32 := 2#32
  let c1_i32_8 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v15 : BitVec 32 := Scalar.subi c1_i32_8 v5
  let v16 : BitVec 32 := Scalar.muli c2_i32_9 v15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v17 : BitVec 32 := Scalar.addi v16 v2
  let c1024_i32_10 : BitVec 32 := 1024#32
  let v18 : BitVec 32 := Scalar.muli v17 c1024_i32_10
  let v33 : BitVec 32 := Scalar.addi v18 c0_i32_23
  let c0_i32_29 : BitVec 32 := 0#32
  ![0, v33.toNat, 0]
def k0_dev3 (d0 : Dev nD) : Nat :=
  let c0_i32_52 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_51 : BitVec 32 := 2#32
  let v59 : BitVec 32 := Scalar.muli v2 c2_i32_51
  let v60 : BitVec 32 := Scalar.addi c0_i32_52 v59
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_53 : BitVec 32 := 1#32
  let v61 : BitVec 32 := Scalar.muli v7 c1_i32_53
  let v62 : BitVec 32 := Scalar.addi v60 v61
  v62.toNat
def k0_dev4 (d0 : Dev nD) : Nat :=
  let c0_i32_80 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_79 : BitVec 32 := 2#32
  let v90 : BitVec 32 := Scalar.muli v2 c2_i32_79
  let v91 : BitVec 32 := Scalar.addi c0_i32_80 v90
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_81 : BitVec 32 := 1#32
  let v92 : BitVec 32 := Scalar.muli v7 c1_i32_81
  let v93 : BitVec 32 := Scalar.addi v91 v92
  v93.toNat
def k0_dev5 (d0 : Dev nD) : Nat :=
  let c0_i32_108 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_107 : BitVec 32 := 2#32
  let v121 : BitVec 32 := Scalar.muli v2 c2_i32_107
  let v122 : BitVec 32 := Scalar.addi c0_i32_108 v121
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_109 : BitVec 32 := 1#32
  let v123 : BitVec 32 := Scalar.muli v7 c1_i32_109
  let v124 : BitVec 32 := Scalar.addi v122 v123
  v124.toNat
def k0_dev6 (d0 : Dev nD) : Nat :=
  let c0_i32_135 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_134 : BitVec 32 := 2#32
  let v152 : BitVec 32 := Scalar.muli v2 c2_i32_134
  let v153 : BitVec 32 := Scalar.addi c0_i32_135 v152
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_136 : BitVec 32 := 1#32
  let v154 : BitVec 32 := Scalar.muli v7 c1_i32_136
  let v155 : BitVec 32 := Scalar.addi v153 v154
  v155.toNat
def k0_dev7 (d0 : Dev nD) : Nat :=
  let c0_i32_162 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_161 : BitVec 32 := 2#32
  let v183 : BitVec 32 := Scalar.muli v2 c2_i32_161
  let v184 : BitVec 32 := Scalar.addi c0_i32_162 v183
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_163 : BitVec 32 := 1#32
  let v185 : BitVec 32 := Scalar.muli v7 c1_i32_163
  let v186 : BitVec 32 := Scalar.addi v184 v185
  v186.toNat
def k0_dev8 (d0 : Dev nD) : Nat :=
  let c0_i32_189 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_188 : BitVec 32 := 2#32
  let v214 : BitVec 32 := Scalar.muli v2 c2_i32_188
  let v215 : BitVec 32 := Scalar.addi c0_i32_189 v214
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_190 : BitVec 32 := 1#32
  let v216 : BitVec 32 := Scalar.muli v7 c1_i32_190
  let v217 : BitVec 32 := Scalar.addi v215 v216
  v217.toNat
def k0_dev9 (d0 : Dev nD) : Nat :=
  let c0_i32_216 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_215 : BitVec 32 := 2#32
  let v245 : BitVec 32 := Scalar.muli v2 c2_i32_215
  let v246 : BitVec 32 := Scalar.addi c0_i32_216 v245
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_217 : BitVec 32 := 1#32
  let v247 : BitVec 32 := Scalar.muli v7 c1_i32_217
  let v248 : BitVec 32 := Scalar.addi v246 v247
  v248.toNat
def k0_dev10 (d0 : Dev nD) : Nat :=
  let c0_i32_237 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_236 : BitVec 32 := 2#32
  let v269 : BitVec 32 := Scalar.muli v2 c2_i32_236
  let v270 : BitVec 32 := Scalar.addi c0_i32_237 v269
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_238 : BitVec 32 := 1#32
  let v271 : BitVec 32 := Scalar.muli v7 c1_i32_238
  let v272 : BitVec 32 := Scalar.addi v270 v271
  v272.toNat
def k0_off2 (d0 : Dev nD) (c0_i32_243 : BitVec 32) : Fin 3 → Nat :=
  let c0_i32_244 : BitVec 32 := 0#32
  let c2_i32_4 : BitVec 32 := 2#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.muli c2_i32_4 v5
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.addi v8 v2
  let c1024_i32 : BitVec 32 := 1024#32
  let v10 : BitVec 32 := Scalar.muli v9 c1024_i32
  let v281 : BitVec 32 := Scalar.addi v10 c0_i32_243
  let c0_i32_249 : BitVec 32 := 0#32
  ![0, v281.toNat, 0]
def k0_off3 (d0 : Dev nD) (c0_i32_250 : BitVec 32) : Fin 2 → Nat :=
  let c2_i32_4 : BitVec 32 := 2#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.muli c2_i32_4 v5
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.addi v8 v2
  let c1024_i32 : BitVec 32 := 1024#32
  let v10 : BitVec 32 := Scalar.muli v9 c1024_i32
  let v288 : BitVec 32 := Scalar.addi v10 c0_i32_250
  let c0_i32_255 : BitVec 32 := 0#32
  ![v288.toNat, 0]
def k0_dev11 (d0 : Dev nD) : Nat :=
  let c0_i32_311 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_310 : BitVec 32 := 2#32
  let v356 : BitVec 32 := Scalar.muli v6 c2_i32_310
  let v357 : BitVec 32 := Scalar.addi c0_i32_311 v356
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_312 : BitVec 32 := 1#32
  let v358 : BitVec 32 := Scalar.muli v5 c1_i32_312
  let v359 : BitVec 32 := Scalar.addi v357 v358
  v359.toNat
def k0_dev12 (d0 : Dev nD) : Nat :=
  let c0_i32_322 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_321 : BitVec 32 := 2#32
  let v368 : BitVec 32 := Scalar.muli v2 c2_i32_321
  let v369 : BitVec 32 := Scalar.addi c0_i32_322 v368
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_323 : BitVec 32 := 1#32
  let v370 : BitVec 32 := Scalar.muli v7 c1_i32_323
  let v371 : BitVec 32 := Scalar.addi v369 v370
  v371.toNat
def k0_dev13 (d0 : Dev nD) : Nat :=
  let c0_i32_390 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_389 : BitVec 32 := 2#32
  let v448 : BitVec 32 := Scalar.muli v6 c2_i32_389
  let v449 : BitVec 32 := Scalar.addi c0_i32_390 v448
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_391 : BitVec 32 := 1#32
  let v450 : BitVec 32 := Scalar.muli v5 c1_i32_391
  let v451 : BitVec 32 := Scalar.addi v449 v450
  v451.toNat
def k0_dev14 (d0 : Dev nD) : Nat :=
  let c0_i32_401 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_400 : BitVec 32 := 2#32
  let v460 : BitVec 32 := Scalar.muli v2 c2_i32_400
  let v461 : BitVec 32 := Scalar.addi c0_i32_401 v460
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_402 : BitVec 32 := 1#32
  let v462 : BitVec 32 := Scalar.muli v7 c1_i32_402
  let v463 : BitVec 32 := Scalar.addi v461 v462
  v463.toNat
def k0_dev15 (d0 : Dev nD) : Nat :=
  let c0_i32_469 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_468 : BitVec 32 := 2#32
  let v540 : BitVec 32 := Scalar.muli v6 c2_i32_468
  let v541 : BitVec 32 := Scalar.addi c0_i32_469 v540
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_470 : BitVec 32 := 1#32
  let v542 : BitVec 32 := Scalar.muli v5 c1_i32_470
  let v543 : BitVec 32 := Scalar.addi v541 v542
  v543.toNat
def k0_dev16 (d0 : Dev nD) : Nat :=
  let c0_i32_480 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_479 : BitVec 32 := 2#32
  let v552 : BitVec 32 := Scalar.muli v2 c2_i32_479
  let v553 : BitVec 32 := Scalar.addi c0_i32_480 v552
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_481 : BitVec 32 := 1#32
  let v554 : BitVec 32 := Scalar.muli v7 c1_i32_481
  let v555 : BitVec 32 := Scalar.addi v553 v554
  v555.toNat
def k0_dev17 (d0 : Dev nD) : Nat :=
  let c0_i32_548 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_547 : BitVec 32 := 2#32
  let v632 : BitVec 32 := Scalar.muli v6 c2_i32_547
  let v633 : BitVec 32 := Scalar.addi c0_i32_548 v632
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_549 : BitVec 32 := 1#32
  let v634 : BitVec 32 := Scalar.muli v5 c1_i32_549
  let v635 : BitVec 32 := Scalar.addi v633 v634
  v635.toNat
def k0_dev18 (d0 : Dev nD) : Nat :=
  let c0_i32_559 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_558 : BitVec 32 := 2#32
  let v644 : BitVec 32 := Scalar.muli v2 c2_i32_558
  let v645 : BitVec 32 := Scalar.addi c0_i32_559 v644
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_560 : BitVec 32 := 1#32
  let v646 : BitVec 32 := Scalar.muli v7 c1_i32_560
  let v647 : BitVec 32 := Scalar.addi v645 v646
  v647.toNat
def k0_dev19 (d0 : Dev nD) : Nat :=
  let c0_i32_627 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_626 : BitVec 32 := 2#32
  let v724 : BitVec 32 := Scalar.muli v6 c2_i32_626
  let v725 : BitVec 32 := Scalar.addi c0_i32_627 v724
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_628 : BitVec 32 := 1#32
  let v726 : BitVec 32 := Scalar.muli v5 c1_i32_628
  let v727 : BitVec 32 := Scalar.addi v725 v726
  v727.toNat
def k0_dev20 (d0 : Dev nD) : Nat :=
  let c0_i32_638 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_637 : BitVec 32 := 2#32
  let v736 : BitVec 32 := Scalar.muli v2 c2_i32_637
  let v737 : BitVec 32 := Scalar.addi c0_i32_638 v736
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_639 : BitVec 32 := 1#32
  let v738 : BitVec 32 := Scalar.muli v7 c1_i32_639
  let v739 : BitVec 32 := Scalar.addi v737 v738
  v739.toNat
def k0_dev21 (d0 : Dev nD) : Nat :=
  let c0_i32_706 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_705 : BitVec 32 := 2#32
  let v816 : BitVec 32 := Scalar.muli v6 c2_i32_705
  let v817 : BitVec 32 := Scalar.addi c0_i32_706 v816
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_707 : BitVec 32 := 1#32
  let v818 : BitVec 32 := Scalar.muli v5 c1_i32_707
  let v819 : BitVec 32 := Scalar.addi v817 v818
  v819.toNat
def k0_dev22 (d0 : Dev nD) : Nat :=
  let c0_i32_717 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_716 : BitVec 32 := 2#32
  let v828 : BitVec 32 := Scalar.muli v2 c2_i32_716
  let v829 : BitVec 32 := Scalar.addi c0_i32_717 v828
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_718 : BitVec 32 := 1#32
  let v830 : BitVec 32 := Scalar.muli v7 c1_i32_718
  let v831 : BitVec 32 := Scalar.addi v829 v830
  v831.toNat
def k0_dev23 (d0 : Dev nD) : Nat :=
  let c0_i32_785 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_784 : BitVec 32 := 2#32
  let v908 : BitVec 32 := Scalar.muli v6 c2_i32_784
  let v909 : BitVec 32 := Scalar.addi c0_i32_785 v908
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_786 : BitVec 32 := 1#32
  let v910 : BitVec 32 := Scalar.muli v5 c1_i32_786
  let v911 : BitVec 32 := Scalar.addi v909 v910
  v911.toNat
def k0_dev24 (d0 : Dev nD) : Nat :=
  let c0_i32_796 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_795 : BitVec 32 := 2#32
  let v920 : BitVec 32 := Scalar.muli v2 c2_i32_795
  let v921 : BitVec 32 := Scalar.addi c0_i32_796 v920
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_797 : BitVec 32 := 1#32
  let v922 : BitVec 32 := Scalar.muli v7 c1_i32_797
  let v923 : BitVec 32 := Scalar.addi v921 v922
  v923.toNat
def k0_dev25 (d0 : Dev nD) : Nat :=
  let c0_i32_851 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_850 : BitVec 32 := 2#32
  let v987 : BitVec 32 := Scalar.muli v6 c2_i32_850
  let v988 : BitVec 32 := Scalar.addi c0_i32_851 v987
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_852 : BitVec 32 := 1#32
  let v989 : BitVec 32 := Scalar.muli v5 c1_i32_852
  let v990 : BitVec 32 := Scalar.addi v988 v989
  v990.toNat
def k0_dev26 (d0 : Dev nD) : Nat :=
  let c0_i32_862 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_861 : BitVec 32 := 2#32
  let v999 : BitVec 32 := Scalar.muli v2 c2_i32_861
  let v1000 : BitVec 32 := Scalar.addi c0_i32_862 v999
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_863 : BitVec 32 := 1#32
  let v1001 : BitVec 32 := Scalar.muli v7 c1_i32_863
  let v1002 : BitVec 32 := Scalar.addi v1000 v1001
  v1002.toNat
def k0_off4 (d0 : Dev nD) (c0_i32_890 : BitVec 32) : Fin 2 → Nat :=
  let c2_i32_5 : BitVec 32 := 2#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.muli c2_i32_5 v5
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let v13 : BitVec 32 := Scalar.addi v11 v12
  let c1024_i32_7 : BitVec 32 := 1024#32
  let v14 : BitVec 32 := Scalar.muli v13 c1024_i32_7
  let v1032 : BitVec 32 := Scalar.addi v14 c0_i32_890
  let c0_i32_893 : BitVec 32 := 0#32
  ![v1032.toNat, 0]
def k0_dev27 (d0 : Dev nD) : Nat :=
  let c0_i32_1066 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1065 : BitVec 32 := 2#32
  let v1195 : BitVec 32 := Scalar.muli v6 c2_i32_1065
  let v1196 : BitVec 32 := Scalar.addi c0_i32_1066 v1195
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1067 : BitVec 32 := 1#32
  let v1197 : BitVec 32 := Scalar.muli v5 c1_i32_1067
  let v1198 : BitVec 32 := Scalar.addi v1196 v1197
  v1198.toNat
def k0_off5 (d0 : Dev nD) (c0_i32_1077 : BitVec 32) : Fin 2 → Nat :=
  let c2_i32_9 : BitVec 32 := 2#32
  let c1_i32_8 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v15 : BitVec 32 := Scalar.subi c1_i32_8 v5
  let v16 : BitVec 32 := Scalar.muli c2_i32_9 v15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v17 : BitVec 32 := Scalar.addi v16 v2
  let c1024_i32_10 : BitVec 32 := 1024#32
  let v18 : BitVec 32 := Scalar.muli v17 c1024_i32_10
  let v1212 : BitVec 32 := Scalar.addi v18 c0_i32_1077
  let c0_i32_1080 : BitVec 32 := 0#32
  ![v1212.toNat, 0]
def k0_dev28 (d0 : Dev nD) : Nat :=
  let c0_i32_1099 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1098 : BitVec 32 := 2#32
  let v1228 : BitVec 32 := Scalar.muli v6 c2_i32_1098
  let v1229 : BitVec 32 := Scalar.addi c0_i32_1099 v1228
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1100 : BitVec 32 := 1#32
  let v1230 : BitVec 32 := Scalar.muli v5 c1_i32_1100
  let v1231 : BitVec 32 := Scalar.addi v1229 v1230
  v1231.toNat
def k0_dev29 (d0 : Dev nD) : Nat :=
  let c0_i32_1132 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1131 : BitVec 32 := 2#32
  let v1261 : BitVec 32 := Scalar.muli v6 c2_i32_1131
  let v1262 : BitVec 32 := Scalar.addi c0_i32_1132 v1261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1133 : BitVec 32 := 1#32
  let v1263 : BitVec 32 := Scalar.muli v5 c1_i32_1133
  let v1264 : BitVec 32 := Scalar.addi v1262 v1263
  v1264.toNat
def k0_dev30 (d0 : Dev nD) : Nat :=
  let c0_i32_1165 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1164 : BitVec 32 := 2#32
  let v1294 : BitVec 32 := Scalar.muli v6 c2_i32_1164
  let v1295 : BitVec 32 := Scalar.addi c0_i32_1165 v1294
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1166 : BitVec 32 := 1#32
  let v1296 : BitVec 32 := Scalar.muli v5 c1_i32_1166
  let v1297 : BitVec 32 := Scalar.addi v1295 v1296
  v1297.toNat
def k0_dev31 (d0 : Dev nD) : Nat :=
  let c0_i32_1207 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1206 : BitVec 32 := 2#32
  let v1333 : BitVec 32 := Scalar.muli v6 c2_i32_1206
  let v1334 : BitVec 32 := Scalar.addi c0_i32_1207 v1333
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1208 : BitVec 32 := 1#32
  let v1335 : BitVec 32 := Scalar.muli v5 c1_i32_1208
  let v1336 : BitVec 32 := Scalar.addi v1334 v1335
  v1336.toNat
def k0_dev32 (d0 : Dev nD) : Nat :=
  let c0_i32_1249 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1248 : BitVec 32 := 2#32
  let v1372 : BitVec 32 := Scalar.muli v6 c2_i32_1248
  let v1373 : BitVec 32 := Scalar.addi c0_i32_1249 v1372
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1250 : BitVec 32 := 1#32
  let v1374 : BitVec 32 := Scalar.muli v5 c1_i32_1250
  let v1375 : BitVec 32 := Scalar.addi v1373 v1374
  v1375.toNat
def k0_dev33 (d0 : Dev nD) : Nat :=
  let c0_i32_1291 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1290 : BitVec 32 := 2#32
  let v1411 : BitVec 32 := Scalar.muli v6 c2_i32_1290
  let v1412 : BitVec 32 := Scalar.addi c0_i32_1291 v1411
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1292 : BitVec 32 := 1#32
  let v1413 : BitVec 32 := Scalar.muli v5 c1_i32_1292
  let v1414 : BitVec 32 := Scalar.addi v1412 v1413
  v1414.toNat
def k0_dev34 (d0 : Dev nD) : Nat :=
  let c0_i32_1333 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1332 : BitVec 32 := 2#32
  let v1450 : BitVec 32 := Scalar.muli v6 c2_i32_1332
  let v1451 : BitVec 32 := Scalar.addi c0_i32_1333 v1450
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1334 : BitVec 32 := 1#32
  let v1452 : BitVec 32 := Scalar.muli v5 c1_i32_1334
  let v1453 : BitVec 32 := Scalar.addi v1451 v1452
  v1453.toNat
def k0_off6 (d0 : Dev nD) (c0_i32_1366 : BitVec 32) : Fin 2 → Nat :=
  let c2_i32_12 : BitVec 32 := 2#32
  let c1_i32_11 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.subi c1_i32_11 v5
  let v20 : BitVec 32 := Scalar.muli c2_i32_12 v19
  let c1_i32_13 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v21 : BitVec 32 := Scalar.subi c1_i32_13 v2
  let v22 : BitVec 32 := Scalar.addi v20 v21
  let c1024_i32_14 : BitVec 32 := 1024#32
  let v23 : BitVec 32 := Scalar.muli v22 c1024_i32_14
  let v1488 : BitVec 32 := Scalar.addi v23 c0_i32_1366
  let c0_i32_1369 : BitVec 32 := 0#32
  ![v1488.toNat, 0]
abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Body.lean ====
/-
# The kernel's body as five loops over the eight row chunks

The printed body is one long straight line, cut into windows by count. Here it is written again as the source has
it: the handshake, the loop that casts and sends the chunks of the partial sums, the loop that reduces and
normalises the chunks this device owns, the three loops that pass the finished chunks on, and the final waits — each
loop's round stated once, at a symbolic chunk. The last theorem says the two are the same program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Pf

open Cert.KernelIdeal Cert.KernelIdeal.Gen
open Idealize.ShloMosaic
open Idealize.ShloMosaic.TcCoe
open Idealize.SL Idealize.SL.Sem

variable {F : FTy → Type} [FloatOps F]

/-- The programs of one TensorCore of the mesh. -/
abbrev PG (F : FTy → Type) [FloatOps F] := Prog (TpuEff nD τ sig (Elt F) Λ₀ .tc) PUnit

/-! ## The slots of the buffers and of the semaphore arrays -/

theorem inb8 : ∀ k : Fin 8, ∀ a, (![k.val, 0, 0] : Fin 3 → Nat) a + S1x128x4096.size a ≤ S8x128x4096.size a := by decide +kernel
theorem inb2 : ∀ s : Fin 2, ∀ a, (![s.val, 0, 0] : Fin 3 → Nat) a + S1x128x4096.size a ≤ S2x128x4096.size a := by decide +kernel
theorem inbs8 : ∀ k : Fin 8, ∀ a, (![k.val] : Fin 1 → Nat) a + S1.size a ≤ S8.size a := by decide +kernel
theorem inbs4 : ∀ k : Fin 4, ∀ a, (![k.val] : Fin 1 → Nat) a + S1.size a ≤ S4.size a := by decide +kernel
theorem inbs2 : ∀ k : Fin 2, ∀ a, (![k.val] : Fin 1 → Nat) a + S1.size a ≤ S2.size a := by decide +kernel

/-- Chunk `k`'s rectangle in a buffer of eight chunks. -/
abbrev r8 (k : Fin 8) : Rect S8x128x4096 := Rect.unit (s := S8x128x4096) ![k.val, 0, 0] S1x128x4096.size (inb8 k)
/-- Slot `s`'s rectangle in a buffer of two slots. -/
abbrev r2 (s : Fin 2) : Rect S2x128x4096 := Rect.unit (s := S2x128x4096) ![s.val, 0, 0] S1x128x4096.size (inb2 s)

/-- A buffer of eight chunks, as a memref. -/
abbrev B8 : Type := Memref sig .tc .vmem S8x128x4096 .bf16
/-- A buffer of two slots, as a memref. -/
abbrev B2 : Type := Memref sig .tc .vmem S2x128x4096 .f32

/-- Chunk `k` of a buffer of eight. -/
abbrev c8 (M : B8) (k : Fin 8) : Memref sig .tc .vmem S128x4096 .bf16 :=
  (M.slice (r8 k) (fun _ => rfl)).squeeze S128x4096 squeezes_S1x128x4096_S128x4096
/-- Slot `s` of a buffer of two. -/
abbrev c2 (M : B2) (s : Fin 2) : Memref sig .tc .vmem S128x4096 .f32 :=
  (M.slice (r2 s) (fun _ => rfl)).squeeze S128x4096 squeezes_S1x128x4096_S128x4096

/-- Entry `k` of an array of eight semaphores, of four, of two. -/
abbrev s8 (A : DmaSems sig S8) (k : Fin 8) : DmaSem sig :=
  ((A.slice (Rect.unit (s := S8) ![k.val] S1.size (inbs8 k))).squeeze S_ squeezes_S1_S_).sem
abbrev s4 (A : DmaSems sig S4) (k : Fin 4) : DmaSem sig :=
  ((A.slice (Rect.unit (s := S4) ![k.val] S1.size (inbs4 k))).squeeze S_ squeezes_S1_S_).sem
abbrev s2 (A : DmaSems sig S2) (k : Fin 2) : DmaSem sig :=
  ((A.slice (Rect.unit (s := S2) ![k.val] S1.size (inbs2 k))).squeeze S_ squeezes_S1_S_).sem

/-- The slot chunk `c` uses of a buffer of two, and the semaphore it uses of the four forwarding ones. -/
def par (c : Fin 8) : Fin 2 := ⟨c.val % 2, Nat.mod_lt _ (by decide)⟩
def quad (c : Fin 8) : Fin 4 := ⟨c.val % 4, Nat.mod_lt _ (by decide)⟩

abbrev partM : Memref sig .tc .hbm S1x4096x4096 .f32 := Memref.whole main_arg0
abbrev residM : Memref sig .tc .hbm S4096x4096 .f32 := Memref.whole main_arg1
abbrev gamM : Memref sig .tc .vmem S4096 .f32 := Memref.whole cc0_stg0_0
abbrev outM : Memref sig .tc .hbm S4096x4096 .bf16 := Memref.whole main_v1
abbrev poolM : B2 := Memref.whole cc0_scratch0
abbrev rbufM : B2 := Memref.whole cc0_scratch1
abbrev rsSendM : B8 := Memref.whole cc0_scratch2
abbrev agSendM : B8 := Memref.whole cc0_scratch3
abbrev rsRecvM : B8 := Memref.whole cc0_scratch4
abbrev agxM : B8 := Memref.whole cc0_scratch5
abbrev agyM : B8 := Memref.whole cc0_scratch6
abbrev agdM : B8 := Memref.whole cc0_scratch7

abbrev barS : Sem sig := (SemArray.scalar (sig.barrier 0 rfl) : Sems sig S_).sem
abbrev poolS (s : Fin 2) : DmaSem sig := s2 cc0_scratch8 s
abbrev rbufS (s : Fin 2) : DmaSem sig := s2 cc0_scratch9 s
abbrev outS (k : Fin 8) : DmaSem sig := s8 cc0_scratch10 k
abbrev rsSendS (k : Fin 8) : DmaSem sig := s8 cc0_scratch11 k
abbrev agxSendS (k : Fin 8) : DmaSem sig := s8 cc0_scratch12 k
abbrev agySendS (k : Fin 8) : DmaSem sig := s8 cc0_scratch13 k
abbrev fwdSendS (k : Fin 4) : DmaSem sig := s4 cc0_scratch14 k
abbrev rsRecvS (k : Fin 8) : DmaSem sig := s8 cc0_scratch15 k
abbrev agxS (k : Fin 8) : DmaSem sig := s8 cc0_scratch16 k
abbrev agyS (k : Fin 8) : DmaSem sig := s8 cc0_scratch17 k
abbrev agdS (k : Fin 8) : DmaSem sig := s8 cc0_scratch18 k

/-- The neighbour across x, and across y. -/
abbrev xdev (d : Dev nD) : Dev nD := ⟨k0_dev1 d, k0_dev1_lt d⟩
abbrev ydev (d : Dev nD) : Dev nD := ⟨k0_dev2 d, k0_dev2_lt d⟩

/-- Chunk `c`'s offset within a quarter of the rows, as the kernel's word. -/
abbrev cw (c : Fin 8) : BitVec 32 := BitVec.ofNat 32 (128 * c.val)

/-- The rows of the partial sum chunk `c` of the y neighbour's quarter is read from, and of this device's own. -/
abbrev partY (d : Dev nD) (c : Fin 8) : Memref sig .tc .hbm S128x4096 .f32 :=
  (partM.slice (Rect.unit (s := S1x4096x4096) (k0_off1 d (cw c)) S1x128x4096.size (k0_off1_inb d c)) (fun _ => rfl)).squeeze S128x4096 squeezes_S1x128x4096_S128x4096
abbrev partMe (d : Dev nD) (c : Fin 8) : Memref sig .tc .hbm S128x4096 .f32 :=
  (partM.slice (Rect.unit (s := S1x4096x4096) (k0_off2 d (cw c)) S1x128x4096.size (k0_off2_inb d c)) (fun _ => rfl)).squeeze S128x4096 squeezes_S1x128x4096_S128x4096
/-- The rows of the residual this device's chunk `c` is read from. -/
abbrev residMe (d : Dev nD) (c : Fin 8) : Memref sig .tc .hbm S128x4096 .f32 :=
  residM.slice (Rect.unit (s := S4096x4096) (k0_off3 d (cw c)) S128x4096.size (k0_off3_inb d c)) (fun _ => rfl)
/-- The rows of the result chunk `c` of each device's quarter goes to: its own, the x neighbour's, the y neighbour's,
    the opposite corner's. -/
abbrev outMe (d : Dev nD) (c : Fin 8) : Memref sig .tc .hbm S128x4096 .bf16 :=
  outM.slice (Rect.unit (s := S4096x4096) (k0_off3 d (cw c)) S128x4096.size (k0_off3_inb d c)) (fun _ => rfl)
abbrev outX (d : Dev nD) (c : Fin 8) : Memref sig .tc .hbm S128x4096 .bf16 :=
  outM.slice (Rect.unit (s := S4096x4096) (k0_off4 d (cw c)) S128x4096.size (k0_off4_inb d c)) (fun _ => rfl)
abbrev outY (d : Dev nD) (c : Fin 8) : Memref sig .tc .hbm S128x4096 .bf16 :=
  outM.slice (Rect.unit (s := S4096x4096) (k0_off5 d (cw c)) S128x4096.size (k0_off5_inb d c)) (fun _ => rfl)
abbrev outD (d : Dev nD) (c : Fin 8) : Memref sig .tc .hbm S128x4096 .bf16 :=
  outM.slice (Rect.unit (s := S4096x4096) (k0_off6 d (cw c)) S128x4096.size (k0_off6_inb d c)) (fun _ => rfl)

/-! ## Evidence that a transfer's ends are whole words -/

theorem words8 : ∀ k : Fin 8, (r8 k).WholeWords (EltTy.packing .bf16) := by decide +kernel
theorem packed8 : ∀ k : Fin 8, (r8 k).PackedRows (EltTy.packing .bf16) := by decide +kernel

/-- A chunk of a whole buffer is whole words. -/
theorem words_c8 {M : B8} (hM : M.IsWhole) (k : Fin 8) : (c8 M k).view.WordExact :=
  (hM.wordExact_slice rfl _ (words8 k)).reshape _ _
/-- A slot of a buffer of 32-bit elements is whole words. -/
theorem words_c2 (M : B2) (s : Fin 2) : (c2 M s).view.WordExact := (View.wordExact_bits rfl).reshape _ _
theorem words_partY (d : Dev nD) (c : Fin 8) : (partY d c).view.WordExact := (View.wordExact_bits rfl).reshape _ _
theorem words_partMe (d : Dev nD) (c : Fin 8) : (partMe d c).view.WordExact := (View.wordExact_bits rfl).reshape _ _
theorem words_residMe (d : Dev nD) (c : Fin 8) : (residMe d c).view.WordExact := View.wordExact_bits rfl
theorem outM_whole : outM.IsWhole := Memref.isWhole_whole _
theorem words_outMe (d : Dev nD) (c : Fin 8) : (outMe d c).view.WordExact := outM_whole.wordExact_slice rfl _ (k0_off3_wordsbf16 d c)
theorem words_outX (d : Dev nD) (c : Fin 8) : (outX d c).view.WordExact := outM_whole.wordExact_slice rfl _ (k0_off4_wordsbf16 d c)
theorem words_outY (d : Dev nD) (c : Fin 8) : (outY d c).view.WordExact := outM_whole.wordExact_slice rfl _ (k0_off5_wordsbf16 d c)
theorem words_outD (d : Dev nD) (c : Fin 8) : (outD d c).view.WordExact := outM_whole.wordExact_slice rfl _ (k0_off6_wordsbf16 d c)

/-! ## The operations, each followed by the rest of the program -/

/-- Start a local copy. -/
abbrev copyP {sp sp' : Space} {e : EltTy} (src : Memref sig .tc sp S128x4096 e) (dst : Memref sig .tc sp' S128x4096 e) (sm : DmaSem sig)
    (h₁ : src.view.WordExact) (h₂ : dst.view.WordExact) (h₃ : DmaTarget.Typed (nD := nD) (τ := τ) (p := .tc) sp (.dma sm) (.here dst)) (k : PG F) : PG F :=
  .op (.enqueueDma src (.here dst) (.dma sm) h₁ h₂ h₃) fun _ => k

/-- Start a copy to another device. -/
abbrev sendP (n : Dev nD) (src dst : Memref sig .tc .vmem S128x4096 .bf16) (ss rs : DmaSem sig)
    (hsc : dst.view.ref.isScScratch = false)
    (h₁ : src.view.WordExact) (h₂ : dst.view.WordExact) (h₃ : DmaTarget.Typed (nD := nD) (τ := τ) (p := .tc) .vmem (.dma rs) (.remote (Dev.tc n) dst (.dma ss) hsc)) (k : PG F) : PG F :=
  .op (.enqueueDma src (.remote (Dev.tc n) dst (.dma ss) hsc) (.dma rs) h₁ h₂ h₃) fun _ => k

/-- Wait for a copy. -/
abbrev waitP {sp sp' : Space} {e : EltTy} (sm : DmaSem sig) (src : Memref sig .tc sp S128x4096 e) (dst : Memref sig .tc sp' S128x4096 e)
    (h₁ : src.view.WordExact) (h₂ : dst.view.WordExact) (k : PG F) : PG F :=
  .op (.waitDma2 sm src dst h₁ h₂) fun _ => k

/-- Load one slot of a buffer of two, one chunk of a buffer of eight. -/
abbrev load2 (M : B2) (s : Fin 2) (k : Vec F S1x128x4096 .f32 → PG F) : PG F :=
  .op (.load M (r2 s).toLoadRect (View.loadsAt_vmem h_S1x128x4096)) k
abbrev load8 (M : B8) (c : Fin 8) (k : Vec F S1x128x4096 .bf16 → PG F) : PG F :=
  .op (.load M (r8 c).toLoadRect (View.loadsAt_vmem h_S1x128x4096)) k
/-- Load the scale. -/
abbrev loadG (k : Vec F S4096 .f32 → PG F) : PG F :=
  .op (.load gamM (Rect.unit (s := S4096) ![0] S4096.size inb_S4096_S4096_0).toLoadRect (View.loadsAt_vmem h_S4096)) k
/-- Store one chunk of a buffer of eight. -/
abbrev store8 {M : B8} (hM : M.IsWhole) (c : Fin 8) (w : FVec F S1x128x4096 .bf16) (k : PG F) : PG F :=
  .op (.store M (r8 c) w Finset.univ (View.stores_vmem h_S1x128x4096 (hM.storeExact_slice rfl _ (packed8 c)) (fun _ => rfl)) (.inl rfl)) fun _ => k

abbrev rsSendW : rsSendM.IsWhole := Memref.isWhole_whole _
abbrev agSendW : agSendM.IsWhole := Memref.isWhole_whole _
abbrev rsRecvW : rsRecvM.IsWhole := Memref.isWhole_whole _
abbrev agxW : agxM.IsWhole := Memref.isWhole_whole _
abbrev agyW : agyM.IsWhole := Memref.isWhole_whole _
abbrev agdW : agdM.IsWhole := Memref.isWhole_whole _

/-! ## The rounds of the loops -/

/-- Eight rounds, then the rest. -/
abbrev loop8 (f : Fin 8 → PG F → PG F) (k : PG F) : PG F :=
  f 0 (f 1 (f 2 (f 3 (f 4 (f 5 (f 6 (f 7 k)))))))

/-- Run a stretch at the next chunk, if there is one. -/
def nextP (c : Fin 8) (f : Fin 8 → PG F → PG F) (k : PG F) : PG F :=
  if h : c.val + 1 < 8 then f ⟨c.val + 1, h⟩ k else k

/-- Start fetching chunk `c` of the y neighbour's quarter. -/
def fetchY (d : Dev nD) (c : Fin 8) (k : PG F) : PG F :=
  copyP (partY d c) (c2 poolM (par c)) (poolS (par c)) (words_partY d c) (words_c2 _ _) ⟨Or.inl rfl, trivial⟩ k

/-- Round `c` of the first loop: the next chunk's fetch started, this one's awaited, the chunk cast and sent. -/
def round1 (d : Dev nD) (c : Fin 8) (k : PG F) : PG F :=
  nextP c (fetchY d)
  (waitP (poolS (par c)) (partY d c) (c2 poolM (par c)) (words_partY d c) (words_c2 _ _)
  (load2 poolM (par c) fun v =>
  load8 rsSendM c fun _ =>
  store8 rsSendW c (k0_pay1 v)
  (sendP (ydev d) (c8 rsSendM c) (c8 rsRecvM c) (rsSendS c) (rsRecvS c) rfl (words_c8 rsSendW c) (words_c8 rsRecvW c) ⟨⟨rfl, Or.inl rfl⟩, trivial⟩ k)))

/-- Start fetching chunk `c` of this device's own quarter: the partial sums' and the residual's. -/
def fetchMe (d : Dev nD) (c : Fin 8) (k : PG F) : PG F :=
  copyP (partMe d c) (c2 poolM (par c)) (poolS (par c)) (words_partMe d c) (words_c2 _ _) ⟨Or.inl rfl, trivial⟩
  (copyP (residMe d c) (c2 rbufM (par c)) (rbufS (par c)) (words_residMe d c) (words_c2 _ _) ⟨Or.inl rfl, trivial⟩ k)

/-- Round `c` of the second loop: the chunk's three addends awaited, added, normalised, scaled and cast; the finished
    chunk sent to both neighbours and copied to the result. -/
def round2 (d : Dev nD) (c : Fin 8) (k : PG F) : PG F :=
  nextP c (fetchMe d)
  (waitP (poolS (par c)) (partMe d c) (c2 poolM (par c)) (words_partMe d c) (words_c2 _ _)
  (waitP (rbufS (par c)) (residMe d c) (c2 rbufM (par c)) (words_residMe d c) (words_c2 _ _)
  (waitP (rsRecvS c) (c8 rsRecvM c) (c8 rsRecvM c) (words_c8 rsRecvW c) (words_c8 rsRecvW c)
  (load2 poolM (par c) fun v =>
  load8 rsRecvM c fun r =>
  load2 rbufM (par c) fun x =>
  loadG fun g =>
  load8 agSendM c fun _ =>
  store8 agSendW c (k0_pay24 v r x g)
  (sendP (xdev d) (c8 agSendM c) (c8 agxM c) (agxSendS c) (agxS c) rfl (words_c8 agSendW c) (words_c8 agxW c) ⟨⟨rfl, Or.inl rfl⟩, trivial⟩
  (sendP (ydev d) (c8 agSendM c) (c8 agyM c) (agySendS c) (agyS c) rfl (words_c8 agSendW c) (words_c8 agyW c) ⟨⟨rfl, Or.inl rfl⟩, trivial⟩
  (copyP (c8 agSendM c) (outMe d c) (outS c) (words_c8 agSendW c) (words_outMe d c) ⟨Or.inl rfl, trivial⟩ k)))))))

/-- Round `c` of the third loop: the x neighbour's chunk awaited and copied to the result. -/
def round3 (d : Dev nD) (c : Fin 8) (k : PG F) : PG F :=
  waitP (agxS c) (c8 agxM c) (c8 agxM c) (words_c8 agxW c) (words_c8 agxW c)
  (waitP (outS c) (c8 agSendM c) (outMe d c) (words_c8 agSendW c) (words_outMe d c)
  (copyP (c8 agxM c) (outX d c) (outS c) (words_c8 agxW c) (words_outX d c) ⟨Or.inl rfl, trivial⟩ k))

/-- Wait for the forwarding of chunk `c` to have left. -/
def fwdWait (c : Fin 8) (k : PG F) : PG F :=
  waitP (fwdSendS (quad c)) (c8 agdM c) (c8 agyM c) (words_c8 agdW c) (words_c8 agyW c) k

/-- Run a stretch at the chunk four before, if there is one. -/
def fourBack (c : Fin 8) (f : Fin 8 → PG F → PG F) (k : PG F) : PG F :=
  if h : 4 ≤ c.val then f ⟨c.val - 4, lt_of_le_of_lt (Nat.sub_le _ _) c.isLt⟩ k else k

/-- Round `c` of the fourth loop: the y neighbour's chunk awaited, forwarded across x and copied to the result. -/
def round4 (d : Dev nD) (c : Fin 8) (k : PG F) : PG F :=
  waitP (agyS c) (c8 agyM c) (c8 agyM c) (words_c8 agyW c) (words_c8 agyW c)
  (fourBack c fwdWait
  (sendP (xdev d) (c8 agyM c) (c8 agdM c) (fwdSendS (quad c)) (agdS c) rfl (words_c8 agyW c) (words_c8 agdW c) ⟨⟨rfl, Or.inl rfl⟩, trivial⟩
  (waitP (outS c) (c8 agxM c) (outX d c) (words_c8 agxW c) (words_outX d c)
  (copyP (c8 agyM c) (outY d c) (outS c) (words_c8 agyW c) (words_outY d c) ⟨Or.inl rfl, trivial⟩ k))))

/-- Round `c` of the fifth loop: the opposite corner's chunk awaited and copied to the result. -/
def round5 (d : Dev nD) (c : Fin 8) (k : PG F) : PG F :=
  waitP (agdS c) (c8 agdM c) (c8 agdM c) (words_c8 agdW c) (words_c8 agdW c)
  (waitP (outS c) (c8 agyM c) (outY d c) (words_c8 agyW c) (words_outY d c)
  (copyP (c8 agdM c) (outD d c) (outS c) (words_c8 agdW c) (words_outD d c) ⟨Or.inl rfl, trivial⟩ k))

/-- The final waits: for the first loop's sends, the second's, the last four forwardings, the last copies out. -/
def drain1 (c : Fin 8) (k : PG F) : PG F :=
  waitP (rsSendS c) (c8 rsRecvM c) (c8 rsSendM c) (words_c8 rsRecvW c) (words_c8 rsSendW c) k
def drain2 (c : Fin 8) (k : PG F) : PG F :=
  waitP (agxSendS c) (c8 agxM c) (c8 agSendM c) (words_c8 agxW c) (words_c8 agSendW c)
  (waitP (agySendS c) (c8 agyM c) (c8 agSendM c) (words_c8 agyW c) (words_c8 agSendW c) k)
def drain4 (d : Dev nD) (c : Fin 8) (k : PG F) : PG F :=
  waitP (outS c) (c8 agdM c) (outD d c) (words_c8 agdW c) (words_outD d c) k

/-- A signal to another device's barrier semaphore, and the wait for both neighbours'. -/
abbrev knock (n : Dev nD) (k : PG F) : PG F := .op (.semSignal (Dev.tc n) barS ((1 : ℕ) : ℤ)) fun _ => k
abbrev meet (k : PG F) : PG F := .op (.semWait barS ((2 : ℕ) : ℤ)) fun _ => k

/-- The body at device `d`. -/
def bodyOn (d : Dev nD) : PG F :=
  knock (xdev d) (knock (ydev d) (meet
  (fetchY d 0 (loop8 (round1 d)
  (fetchMe d 0 (loop8 (round2 d)
  (loop8 (round3 d) (loop8 (round4 d) (loop8 (round5 d)
  (loop8 drain1 (loop8 drain2
  (fwdWait 4 (fwdWait 5 (fwdWait 6 (fwdWait 7 (loop8 (drain4 d) (.ret ⟨⟩)))))))))))))))))

/-- The printed body is that program, run at the device it reads its own id from. -/
theorem body_eq (t : Fin cfg0.N) : bodyAt0 (F := F) t = .op .deviceId fun d => bodyOn d := by
  chain_rfl

end Cert.KernelIdeal.Pf

end
-- ==== Proof.Own.lean ====
/-
# Owning a view's elements, and the body's local operations

`has c v q w`: device `c` holds a share `q` of the elements of the view `v`, which reads `w`; `room c v`: it holds
them whole, whatever they are. The rules of the loads, the stores, the local copies and their waits are restated in
these terms, once each.
-/
module

public import proofs.«01_k».proof.Proof.Body
public import Idealize.ShloMosaic.Lib.Transfers
public import Idealize.ShloMosaic.Lib.Rounds

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra of the proof: the pipeline's rounds, the devices' rounds, the local copies' counters. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

abbrev 𝒱₀ : Variants := Variants.none

/-- The weakest precondition of a program on device `c`'s core. -/
abbrev WP (c : Dev nD) (p : PG F) (Q : PUnit → sProp 𝕄) : sProp 𝕄 :=
  wp frame (wpE (defs₀ (F := F)) 𝒱₀ (c : Thread nD τ) none) Set.univ p Q

/-- Device `c` holds share `q` of the view's elements, which read `w`. -/
def has (c : Dev nD) {sp : Space} {s : Shape} {e : EltTy} (v : View sig .tc sp s e) (q : PosShare TreeShare) (w : s.Idx → Elt F e) : sProp 𝕄 :=
  iprop(∃ f : Buf (Elt F) (v.loc (c : Thread nD τ)), ⌜v.read (Elt F) f = w⌝ ∗ (v.loc (c : Thread nD τ) ↦[v.set]{q} f))

/-- Device `c` holds the view's elements whole, whatever they are. -/
def room (c : Dev nD) {sp : Space} {s : Shape} {e : EltTy} (v : View sig .tc sp s e) : sProp 𝕄 :=
  iprop(∃ f : Buf (Elt F) (v.loc (c : Thread nD τ)), (v.loc (c : Thread nD τ) ↦[v.set]{fullShare} f))

instance has_storable (c : Dev nD) {sp : Space} {s : Shape} {e : EltTy} (v : View sig .tc sp s e) (q) (w : s.Idx → Elt F e) :
    BI.Storable (upEmb : UEmb _ 𝕄) (has c v q w) := by unfold has; infer_instance
instance room_storable (c : Dev nD) {sp : Space} {s : Shape} {e : EltTy} (v : View sig .tc sp s e) :
    BI.Storable (upEmb : UEmb _ 𝕄) (room (F := F) c v) := by unfold room; infer_instance

section Rules

variable (c : Dev nD) {sp sp' : Space} {s s' : Shape} {e e' : EltTy}

/-- Held elements are room. -/
theorem has_room {v : View sig .tc sp s e} {w : s.Idx → Elt F e} : has c v fullShare w ⊢ room (F := F) c v := by
  unfold has room
  iintro ⟨%f, -, H⟩
  iexists f; iexact H

/-- A share is its two halves. -/
theorem has_split {v : View sig .tc sp s e} {q : PosShare TreeShare} {w : s.Idx → Elt F e} :
    has c v q w ⊢ (iprop(has c v q.left w ∗ has c v q.right w) : sProp 𝕄) := by
  unfold has
  iintro ⟨%f, %hf, H⟩
  ihave H' := (pointsTo_share (PosShare.mem_left_op_right q)).1 $$ H
  icases H' with ⟨H1, H2⟩
  isplitl [H1]
  · iexists f; isplitr; · ipureintro; exact hf
    iexact H1
  · iexists f; isplitr; · ipureintro; exact hf
    iexact H2

/-- Two contents a view reads alike agree on its elements. -/
theorem read_eq_on (v : View sig .tc sp s e) {f g : v.ty.Contents (Elt F)} (h : v.read (Elt F) f = v.read (Elt F) g) :
    ∀ i ∈ v.set, f i = g i := by
  intro i hi
  obtain ⟨x, -, rfl⟩ := Finset.mem_map.mp hi
  have := congrFun h x
  simpa [View.read] using this

/-- Two halves are the share. -/
theorem has_join {v : View sig .tc sp s e} {q : PosShare TreeShare} {w : s.Idx → Elt F e} :
    (iprop(has c v q.left w ∗ has c v q.right w) : sProp 𝕄) ⊢ has c v q w := by
  unfold has
  iintro ⟨⟨%f, %hf, H1⟩, ⟨%g, %hg, H2⟩⟩
  iexists f
  isplitr; · ipureintro; exact hf
  iapply (pointsTo_share (PosShare.mem_left_op_right q)).2
  isplitl [H1]; · iexact H1
  ihave H := (Entails.of_eq (pointsTo_congr (read_eq_on v (hg.trans hf.symm)))) $$ H2
  iexact H

/-- What a core owes, its waits forgotten. -/
def due (O : CellTallies nD τ sig Unit) : sProp 𝕄 := iprop(∃ W, owes (c : Thread nD τ) O W)

/-- A local copy in flight towards `dst`, to deliver `D`. -/
def fly (sm : DmaSem sig) (dst : Memref sig .tc sp' s' e') (D : sProp 𝕄) : sProp 𝕄 :=
  Transfers.Flight EC (c : Thread nD τ) (.dma sm) () dst.view.dmaCredit D

/-- The counter of one of this device's transfer semaphores at zero. -/
abbrev idle (sm : DmaSem sig) : sProp 𝕄 := semVal ((c : Thread nD τ), .dma sm) 0

theorem copy_rule {src : Memref sig .tc sp S128x4096 e} {dst : Memref sig .tc sp' S128x4096 e} {sm : DmaSem sig}
    {h₁ : src.view.WordExact} {h₂ : dst.view.WordExact} {h₃ : DmaTarget.Typed (nD := nD) (τ := τ) (p := .tc) sp (.dma sm) (.here dst)}
    {q : PosShare TreeShare} {w : S128x4096.Idx → Elt F e} {k : PG F} {Q : PUnit → sProp 𝕄} :
    iprop(has c src.view q w ∗ room c dst.view ∗ idle c sm)
      ⊢ iprop((fly c sm dst iprop(has c dst.view fullShare w ∗ has c src.view q w) -∗ WP c k Q)
          -∗ WP c (copyP src dst sm h₁ h₂ h₃ k) Q) := by
  unfold has room idle
  iintro ⟨⟨%f, %hf, Hs⟩, ⟨%g, Hd⟩, Hv⟩ Hk
  iapply (Transfers.wp_dmaLocal EC 𝒱₀ (c : Thread nD τ) none (src := src) (via := ReadAs.same) (dst := dst) (sm := .dma sm) (fs := f) (fd := g)
    () dst.view.dmaCredit rfl (View.dmaCredit_pos _ (by decide)) subset_rfl) $$ [Hs Hd Hv]
  · isplitl [Hs]; · iexact Hs
    isplitl [Hd]; · iexact Hd
    iexact Hv
  iintro HF
  iapply Hk
  unfold fly
  iapply (Transfers.Flight_mono EC (c : Thread nD τ) (D := _) (D' := _) ?_) $$ HF
  iintro ⟨Hd, Hs⟩
  isplitl [Hd]
  · iexists _
    isplitr; rotate_left; · iexact Hd
    ipureintro
    rw [View.read_write_univ]; exact hf
  · iexists f
    isplitr; · ipureintro; exact hf
    iexact Hs

/-- The wait for a local copy. -/
theorem wait_rule {src : Memref sig .tc sp S128x4096 e} {dst : Memref sig .tc sp' S128x4096 e} {sm : DmaSem sig}
    {h₁ : src.view.WordExact} {h₂ : dst.view.WordExact} {O : CellTallies nD τ sig Unit} {D : sProp 𝕄} {k : PG F} {Q : PUnit → sProp 𝕄} :
    iprop(fly c sm dst D ∗ due c O ∗ MayWait (c : Thread nD τ) (.dma sm) () O)
      ⊢ iprop((iprop(D ∗ idle c sm ∗ due c O) -∗ WP c k Q) -∗ WP c (waitP sm src dst h₁ h₂ k) Q) := by
  unfold fly due idle
  iintro ⟨HF, ⟨%W, HO⟩, Hm⟩ Hk
  iapply (Transfers.wp_waitLocalO EC 𝒱₀ (c : Thread nD τ) none (srcw := src) (dstw := dst) () (N := dst.view.dmaCredit) rfl) $$ [HF HO Hm]
  · isplitl [HF]; · iexact HF
    isplitl [HO]; · iexact HO
    iexact Hm
  iintro ⟨HD, Hv, HO⟩
  iapply Hk
  isplitl [HD]; · iexact HD
  isplitl [Hv]; · iexact Hv
  iexists _; iexact HO

/-! ### Chunks and slots: the buffer's rectangle of one row slab, with its leading one dropped -/

/-- A slab's contents with the leading one dropped. -/
def sq {e : EltTy} (w : S1x128x4096.Idx → Elt F e) : S128x4096.Idx → Elt F e :=
  fun i => w (Shape.reshapeEquiv squeezes_S1x128x4096_S128x4096.numel_eq i)

theorem sq_inj {e : EltTy} {w w' : S1x128x4096.Idx → Elt F e} (h : sq w = sq w') : w = w' := by
  funext i
  have := congrFun h ((Shape.reshapeEquiv squeezes_S1x128x4096_S128x4096.numel_eq).symm i)
  simpa [sq] using this

/-- Every array of the slab's shape without the one comes so. -/
def unsq {e : EltTy} (w : S128x4096.Idx → Elt F e) : S1x128x4096.Idx → Elt F e :=
  fun i => w ((Shape.reshapeEquiv squeezes_S1x128x4096_S128x4096.numel_eq).symm i)

theorem sq_unsq {e : EltTy} (w : S128x4096.Idx → Elt F e) : sq (unsq w) = w := by
  funext i; simp [sq, unsq]

theorem read_c8 (M : B8) (k : Fin 8) (f : M.view.ty.Contents (Elt F)) :
    (c8 M k).view.read (Elt F) f = sq ((M.access (r8 k)).read (Elt F) f) := rfl
theorem read_c2 (M : B2) (k : Fin 2) (f : M.view.ty.Contents (Elt F)) :
    (c2 M k).view.read (Elt F) f = sq ((M.access (r2 k)).read (Elt F) f) := rfl

/-- Loading a chunk. -/
theorem load8_rule {M : B8} {k : Fin 8} {q : PosShare TreeShare} {w : S1x128x4096.Idx → Elt F .bf16}
    {K : Vec F S1x128x4096 .bf16 → PG F} {Q : PUnit → sProp 𝕄} :
    has c (c8 M k).view q (sq w) ⊢ iprop((has c (c8 M k).view q (sq w) -∗ WP c (K w) Q) -∗ WP c (load8 M k K) Q) := by
  unfold has
  iintro ⟨%f, %hf, H⟩ Hk
  have hw : (M.access (r8 k)).read (Elt F) f = w := sq_inj ((read_c8 M k f).symm.trans hf)
  iapply (wp_load_rect 𝒱₀ (c : Thread nD τ) none Set.univ (m := M) (r := r8 k) (S := (c8 M k).view.set)
    (by rw [show (c8 M k).view.set = (M.access (r8 k)).set from View.set_reshape _ _])) $$ H
  iintro H
  rw [hw]
  iapply Hk
  iexists f
  isplitr; · ipureintro; exact hf
  iexact H

/-- Loading a chunk whose contents do not matter. -/
theorem load8_room {M : B8} {k : Fin 8} {K : Vec F S1x128x4096 .bf16 → PG F} {Q : PUnit → sProp 𝕄} :
    room c (c8 M k).view ⊢ iprop((∀ w, room c (c8 M k).view -∗ WP c (K w) Q) -∗ WP c (load8 M k K) Q) := by
  unfold room
  iintro ⟨%f, H⟩ Hk
  iapply (wp_load_rect 𝒱₀ (c : Thread nD τ) none Set.univ (m := M) (r := r8 k) (S := (c8 M k).view.set)
    (by rw [show (c8 M k).view.set = (M.access (r8 k)).set from View.set_reshape _ _])) $$ H
  iintro H
  iapply Hk
  iexists f
  iexact H

/-- Loading a slot. -/
theorem load2_rule {M : B2} {k : Fin 2} {q : PosShare TreeShare} {w : S1x128x4096.Idx → Elt F .f32}
    {K : Vec F S1x128x4096 .f32 → PG F} {Q : PUnit → sProp 𝕄} :
    has c (c2 M k).view q (sq w) ⊢ iprop((has c (c2 M k).view q (sq w) -∗ WP c (K w) Q) -∗ WP c (load2 M k K) Q) := by
  unfold has
  iintro ⟨%f, %hf, H⟩ Hk
  have hw : (M.access (r2 k)).read (Elt F) f = w := sq_inj ((read_c2 M k f).symm.trans hf)
  iapply (wp_load_rect 𝒱₀ (c : Thread nD τ) none Set.univ (m := M) (r := r2 k) (S := (c2 M k).view.set)
    (by rw [show (c2 M k).view.set = (M.access (r2 k)).set from View.set_reshape _ _])) $$ H
  iintro H
  rw [hw]
  iapply Hk
  iexists f
  isplitr; · ipureintro; exact hf
  iexact H

/-- Storing a chunk. -/
theorem store8_rule {M : B8} {hM : M.IsWhole} {k : Fin 8} {w : FVec F S1x128x4096 .bf16} {K : PG F} {Q : PUnit → sProp 𝕄} :
    room c (c8 M k).view ⊢ iprop((has c (c8 M k).view fullShare (sq w) -∗ WP c K Q) -∗ WP c (store8 hM k w K) Q) := by
  unfold room has
  iintro ⟨%f, H⟩ Hk
  iapply (wp_store 𝒱₀ (c : Thread nD τ) none Set.univ (m := M) (r := r8 k) (Mk := Finset.univ) (S := (c8 M k).view.set)
    (by rw [show (c8 M k).view.set = (M.access (r8 k)).set from View.set_reshape _ _]; exact (View.setOn_univ _).le)) $$ H
  iintro H
  iapply Hk
  iexists _
  isplitr; rotate_left; · iexact H
  ipureintro
  rw [read_c8, View.read_write_univ]

/-- Loading the scale, held whole. -/
theorem loadG_rule {g : (cc0_stg0_0 : Ref sig .tc).ty.Contents (Elt F)} {K : Vec F S4096 .f32 → PG F} {Q : PUnit → sProp 𝕄} :
    ((c : Thread nD τ).loc cc0_stg0_0 ↦{fullShare} g)
      ⊢ iprop((((c : Thread nD τ).loc cc0_stg0_0 ↦{fullShare} g) -∗ WP c (K g) Q) -∗ WP c (loadG K) Q) := by
  iintro H Hk
  iapply (wp_load 𝒱₀ (c : Thread nD τ) none Set.univ (m := gamM) (Finset.subset_univ _)) $$ H
  iintro H
  rw [show gamM.view.readAt (Elt F) (Rect.unit (s := S4096) ![0] S4096.size inb_S4096_S4096_0).toLoadRect g = g from
    Memref.readAt_unit_zero (Elt F) cc0_stg0_0 (funext fun a => by fin_cases a; rfl) _ g]
  iapply Hk
  iexact H

end Rules

end Cert.KernelIdeal.Pf

end
-- ==== Proof.Sched.lean ====
/-
# The protocol between the devices

Which semaphore of which device is credited how often, with what, and what each credit hands over. A barrier cell is
signalled once by each neighbour, which hands over its landing buffers; a receive cell is credited once, by the copy
that lands the chunk; a send cell is credited as its copy leaves, handing the sent chunk back — a forwarding cell
twice, once per half of the chunks. The levels say in what order the waits may be discharged: barrier, first exchange,
second exchange, forwarding.
-/
module

public import proofs.«01_k».proof.Proof.Own

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores, enumerated -/

/-- The transfer semaphores the devices share: seven arrays of eight, and the four forwarding ones. -/
abbrev Dk : Type := Fin 7 × Fin 8 ⊕ Fin 4
/-- All the shared ones: the barrier's besides. -/
abbrev Ck : Type := Unit ⊕ Dk
/-- The transfer semaphores of one device's own copies: the pool's, the residual's, the result's. -/
abbrev Lk : Type := Fin 2 ⊕ Fin 2 ⊕ Fin 8

/-- The seven arrays: the first exchange's, the two of the second at their senders; then the first's, the second's
    two and the forwarding's at their receivers. -/
abbrev arrS : Fin 7 → DmaSems sig S8
  | 0 => cc0_scratch11 | 1 => cc0_scratch12 | 2 => cc0_scratch13
  | 3 => cc0_scratch15 | 4 => cc0_scratch16 | 5 => cc0_scratch17 | 6 => cc0_scratch18

abbrev dsem : Dk → DmaSem sig
  | .inl (a, k) => s8 (arrS a) k
  | .inr s => s4 cc0_scratch14 s
abbrev csem : Ck → SemLoc sig
  | .inl _ => .reg barS
  | .inr x => .dma (dsem x)
abbrev lsem : Lk → DmaSem sig
  | .inl s => poolS s
  | .inr (.inl s) => rbufS s
  | .inr (.inr k) => outS k
/-- All the transfer semaphores of the kernel. -/
abbrev osem : Dk ⊕ Lk → SemLoc sig
  | .inl x => .dma (dsem x)
  | .inr l => .dma (lsem l)

/-- Their numbers. -/
def onum : Dk ⊕ Lk → ℕ
  | .inl x => (dsem x).val
  | .inr l => (lsem l).val

theorem onum_inj : Function.Injective onum := by decide +kernel

theorem osem_injective : Function.Injective osem := by
  intro a b h
  refine onum_inj ?_
  rcases a with a | a <;> rcases b with b | b <;> exact congrArg (fun q : DmaSem sig => q.val) (SemLoc.dma.inj h)

theorem csem_injective : Function.Injective csem := by
  rintro (⟨⟩ | a) (⟨⟩ | b) h
  · rfl
  · cases h
  · cases h
  · exact congrArg Sum.inr (Sum.inl.inj (osem_injective (a₁ := .inl a) (a₂ := .inl b) h))

/-- Which of the shared semaphores one is, if any. -/
def ckOf (sm : SemLoc sig) : Option Ck := if h : ∃ k, csem k = sm then some h.choose else none

theorem ckOf_csem (k : Ck) : ckOf (csem k) = some k := by
  have h : ∃ k', csem k' = csem k := ⟨k, rfl⟩
  unfold ckOf
  rw [dif_pos h]
  exact congrArg some (csem_injective h.choose_spec)

theorem ckOf_local (l : Lk) : ckOf (.dma (lsem l)) = none := by
  unfold ckOf
  rw [dif_neg]
  rintro ⟨⟨⟩ | x, h⟩
  · cases h
  · exact absurd (osem_injective (a₁ := .inl x) (a₂ := .inr l) h) (fun h => by cases h)

/-- A device's cell. -/
abbrev cell (c : Dev nD) (k : Ck) : GSem nD τ sig := ((c : Thread nD τ), csem k)
abbrev kC (a : Fin 7) (k : Fin 8) : Ck := .inr (.inl (a, k))
abbrev kF (s : Fin 4) : Ck := .inr (.inr s)
abbrev kB : Ck := .inl ()

/-! ## Neighbours -/

theorem xdev_xdev (c : Dev nD) : xdev (xdev c) = c := by revert c; decide +kernel
theorem ydev_ydev (c : Dev nD) : ydev (ydev c) = c := by revert c; decide +kernel
theorem xdev_ydev (c : Dev nD) : xdev (ydev c) = ydev (xdev c) := by revert c; decide +kernel

/-! ## Contents -/

section Contents

variable (m : (ℓ : Loc nD τ sig) → Buf (Elt F) ℓ)

/-- Chunk `k` of device `c`'s partial sum, of the quarter its y neighbour reduces and of its own. -/
def vY (c : Dev nD) (k : Fin 8) : Vec F S1x128x4096 .f32 :=
  (partM.access (Rect.unit (s := S1x4096x4096) (k0_off1 c (cw k)) S1x128x4096.size (k0_off1_inb c k))).read (Elt F) (m ((c : Thread nD τ).loc main_arg0))
def vMe (c : Dev nD) (k : Fin 8) : Vec F S1x128x4096 .f32 :=
  (partM.access (Rect.unit (s := S1x4096x4096) (k0_off2 c (cw k)) S1x128x4096.size (k0_off2_inb c k))).read (Elt F) (m ((c : Thread nD τ).loc main_arg0))
/-- Chunk `k` of the residual's quarter device `c` reduces. -/
def vR (c : Dev nD) (k : Fin 8) : Vec F S128x4096 .f32 := (residMe c k).view.read (Elt F) (m ((c : Thread nD τ).loc main_arg1))
/-- The scale, as the pipeline stages it. -/
def gam (c : Dev nD) : (cc0_stg0_0 : Ref sig .tc).ty.Contents (Elt F) :=
  (win0_0.blk (0 : Fin 1)).view.read (Elt F) (m ((c : Thread nD τ).loc main_arg2))

/-- The chunk device `c` sends its y neighbour, and the finished chunk of its own quarter. -/
def rsT (c : Dev nD) (k : Fin 8) : FVec F S1x128x4096 .bf16 := k0_pay1 (vY m c k)
def agT (c : Dev nD) (k : Fin 8) : FVec F S1x128x4096 .bf16 := k0_pay24 (vMe m c k) (rsT m (ydev c) k) (unsq (vR m c k)) (gam m c)

/-! ## The schedule -/

/-- The credit of one chunk. -/
def N : ℕ := (c8 rsRecvM 0).view.dmaCredit
theorem N_pos : 0 < N := View.dmaCredit_pos _ (by decide)

/-- The three shares of a finished chunk: for the copy across x, across y, and to the result. -/
abbrev qx : PosShare TreeShare := fullShare.left
abbrev qy : PosShare TreeShare := fullShare.right.left
abbrev qo : PosShare TreeShare := fullShare.right.right

/-- The chunk forwarding semaphore `s` carries in round `r`. -/
def fwdK (s : Fin 4) (r : ℕ) : Fin 8 := if r = 0 then ⟨s.val, by omega⟩ else ⟨s.val + 4, by omega⟩

/-- Who credits a cell in a round: a barrier cell both neighbours (`true` the one across x), a forwarding cell one copy in
    each of two rounds, any other one copy in one. -/
def dutyK : Ck → ℕ → Finset Bool
  | .inl _, r => if r = 0 then Finset.univ else ∅
  | .inr (.inl _), r => if r = 0 then {false} else ∅
  | .inr (.inr _), r => if r < 2 then {false} else ∅

/-- What the barrier signal of the neighbour across x hands device `c`: its landing buffers for `c`'s chunks and for the
    forwarded ones; and the neighbour across y: its landing buffers for the partial sums and for `c`'s chunks. -/
def barX (c : Dev nD) : sProp 𝕄 := bigSep Finset.univ fun k : Fin 8 => iprop(room (F := F) (xdev c) (c8 agxM k).view ∗ room (F := F) (xdev c) (c8 agdM k).view)
def barY (c : Dev nD) : sProp 𝕄 := bigSep Finset.univ fun k : Fin 8 => iprop(room (F := F) (ydev c) (c8 rsRecvM k).view ∗ room (F := F) (ydev c) (c8 agyM k).view)

/-- What each credit of device `c`'s cells hands it. -/
def payK (c : Dev nD) : Ck → ℕ → Bool → sProp 𝕄
  | .inl _, _, b => if b then barX c else barY c
  | .inr (.inl (0, k)), _, _ => room c (c8 rsSendM k).view
  | .inr (.inl (1, k)), _, _ => has c (c8 agSendM k).view qx (sq (agT m c k))
  | .inr (.inl (2, k)), _, _ => has c (c8 agSendM k).view qy (sq (agT m c k))
  | .inr (.inl (3, k)), _, _ => has c (c8 rsRecvM k).view fullShare (sq (rsT m (ydev c) k))
  | .inr (.inl (4, k)), _, _ => has c (c8 agxM k).view fullShare (sq (agT m (xdev c) k))
  | .inr (.inl (5, k)), _, _ => has c (c8 agyM k).view fullShare (sq (agT m (ydev c) k))
  | .inr (.inl (6, k)), _, _ => has c (c8 agdM k).view fullShare (sq (agT m (ydev (xdev c)) k))
  | .inr (.inr s), r, _ => has c (c8 agyM (fwdK s r)).view fullShare.left (sq (agT m (ydev c) (fwdK s r)))

theorem payK_storable (c : Dev nD) (k : Ck) (r : ℕ) (b : Bool) : BI.Storable (upEmb : UEmb _ 𝕄) (payK m c k r b) := by
  rcases k with ⟨⟩ | ⟨a, k⟩ | s
  · cases b
    · exact (show BI.Storable (upEmb : UEmb _ 𝕄) (barY (F := F) c) from by unfold barY; infer_instance)
    · exact (show BI.Storable (upEmb : UEmb _ 𝕄) (barX (F := F) c) from by unfold barX; infer_instance)
  · fin_cases a <;> (dsimp only [payK]; infer_instance)
  · dsimp only [payK]; infer_instance

def amtK : Ck → ℕ
  | .inl _ => 1
  | .inr _ => N

theorem amtK_pos (k : Ck) : 0 < amtK k := by
  rcases k with ⟨⟩ | x
  · exact Nat.one_pos
  · rw [amtK]; exact N_pos

/-- The schedule of all the cells. -/
def sched : Rounds.Schedule (GSem nD τ sig) Bool 𝕄 where
  duties g r := (ckOf g.2).elim ∅ fun k => dutyK k r
  unitless _ := False
  amount g _ _ := (ckOf g.2).elim 1 amtK
  payload g r b := (ckOf g.2).elim iprop(emp) fun k => payK m g.1.1 k r b
  amount_pos g _ _ _ := by
    rcases ckOf g.2 with - | k
    · exact Nat.one_pos
    · exact amtK_pos k

instance sched_payload_storable (g : GSem nD τ sig) (r : ℕ) (b : Bool) :
    BI.Storable (upEmb : UEmb _ 𝕄) ((sched (F := F) m).payload g r b) := by
  show BI.Storable upEmb ((ckOf g.2).elim iprop(emp) fun k => payK m g.1.1 k r b)
  rcases ckOf g.2 with - | k
  · exact inferInstanceAs (BI.Storable upEmb iprop(emp))
  · exact payK_storable m g.1.1 k r b

theorem duties_cell (c : Dev nD) (k : Ck) (r : ℕ) : (sched (F := F) m).duties (cell c k) r = dutyK k r := by
  show (ckOf (csem k)).elim ∅ (fun k => dutyK k r) = _
  rw [ckOf_csem]; rfl
theorem amount_cell (c : Dev nD) (k : Ck) (r : ℕ) (b : Bool) : (sched (F := F) m).amount (cell c k) r b = amtK k := by
  show (ckOf (csem k)).elim 1 amtK = _
  rw [ckOf_csem]; rfl
theorem payload_cell (c : Dev nD) (k : Ck) (r : ℕ) (b : Bool) : (sched (F := F) m).payload (cell c k) r b = payK m c k r b := by
  show (ckOf (csem k)).elim iprop(emp) (fun k' => payK m c k' r b) = _
  rw [ckOf_csem]; rfl

theorem expect_bar (c : Dev nD) : (sched (F := F) m).expect (cell c kB) 0 = 2 := by
  unfold Schedule.expect Schedule.amountOf
  rw [duties_cell, Finset.sum_congr rfl fun b _ => amount_cell m c kB 0 b]; rfl
theorem expect_dma (c : Dev nD) (x : Dk) (r : ℕ) (hr : dutyK (.inr x) r = {false}) : (sched (F := F) m).expect (cell c (.inr x)) r = N := by
  unfold Schedule.expect Schedule.amountOf
  rw [duties_cell, hr, Finset.sum_singleton, amount_cell]; rfl

theorem rest_bar (c : Dev nD) :
    bigSep ((sched (F := F) m).duties (cell c kB) 0 \ ∅) (fun b => (sched (F := F) m).payload (cell c kB) 0 b) = (iprop(barY c ∗ barX c) : sProp 𝕄) := by
  rw [Finset.sdiff_empty, duties_cell, show dutyK kB 0 = Finset.univ from rfl,
    bigSep_univ_eq_bigSepL [false, true] (by decide) (by decide), bigSepL_cons_cons, bigSepL_singleton, payload_cell, payload_cell]
  rfl
theorem rest_dma (c : Dev nD) (x : Dk) (r : ℕ) (hr : dutyK (.inr x) r = {false}) :
    bigSep ((sched (F := F) m).duties (cell c (.inr x)) r \ ∅) (fun b => (sched (F := F) m).payload (cell c (.inr x)) r b) = payK m c (.inr x) r false := by
  rw [Finset.sdiff_empty, duties_cell, hr, bigSep_singleton, payload_cell]

end Contents

/-! ## Levels, and what a device owes -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barrier 1, first exchange 2, second 3, forwarding 4; the senders' cells and the local ones 0. -/
def lvK : Ck → ℕ
  | .inl _ => 1
  | .inr (.inl (3, _)) => 2
  | .inr (.inl (4, _)) => 3
  | .inr (.inl (5, _)) => 3
  | .inr (.inl (6, _)) => 4
  | .inr (.inl _) => 0
  | .inr (.inr _) => 0
def lv (g : GSem nD τ sig) (_ : Unit) : ℕ := (ckOf g.2).elim 0 lvK

theorem lv_cell (c : Dev nD) (k : Ck) : lv (cell c k) () = lvK k := by
  show (ckOf (csem k)).elim 0 lvK = _
  rw [ckOf_csem]; rfl

/-- Everything owed lies above level `n`, on a core of the kernel's kind. -/
def Above (n : ℕ) (O : CellTallies nD τ sig Unit) : Prop := ∀ g u, 0 < O g u → g.1.2 = .tc ∧ n < lv g u

theorem Above.mayWait {n : ℕ} {O : CellTallies nD τ sig Unit} (h : Above n O) (c : Dev nD) (sm : SemLoc sig) (hs : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hs)
    (fun g u hg => (h g u hg).2)

theorem Above.add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem Above.zero (n : ℕ) : Above n 0 := fun g u hg => absurd hg (Nat.lt_irrefl 0)
theorem Above.tally {n : ℕ} (c : Dev nD) (k : Ck) (a : ℕ) (h : n < lvK k) : Above n (tallyAt (cell c k) () a) := by
  intro g u hg
  obtain ⟨rfl, -⟩ := Pipeline.tallyAt_pos hg
  exact ⟨rfl, by rw [lv_cell]; exact h⟩
theorem Above.mono {n n' : ℕ} {O : CellTallies nD τ sig Unit} (h : Above n O) (hn : n' ≤ n) : Above n' O :=
  fun g u hg => ⟨(h g u hg).1, lt_of_le_of_lt hn (h g u hg).2⟩

/-- The terms of a family from the `n`-th chunk on. -/
def tail (f : Fin 8 → CellTallies nD τ sig Unit) (n : ℕ) : CellTallies nD τ sig Unit := ∑ k ∈ Finset.univ.filter (fun k : Fin 8 => n ≤ k.val), f k

theorem tail_split (f : Fin 8 → CellTallies nD τ sig Unit) (k : Fin 8) : tail f k.val = tail f (k.val + 1) + f k := by
  unfold tail
  rw [show (Finset.univ.filter fun j : Fin 8 => k.val ≤ j.val) = insert k (Finset.univ.filter fun j : Fin 8 => k.val + 1 ≤ j.val) from by
    ext j; simp only [Finset.mem_filter, Finset.mem_univ, true_and, Finset.mem_insert, Fin.ext_iff]; omega,
    Finset.sum_insert (by simp), add_comm]
theorem tail_end (f : Fin 8 → CellTallies nD τ sig Unit) : tail f 8 = 0 := by
  unfold tail
  rw [show (Finset.univ.filter fun j : Fin 8 => 8 ≤ j.val) = ∅ from by ext j; simp, Finset.sum_empty]
theorem tail_zero (f : Fin 8 → CellTallies nD τ sig Unit) : tail f 0 = ∑ k, f k := by
  unfold tail; rw [show (Finset.univ.filter fun j : Fin 8 => 0 ≤ j.val) = Finset.univ from by ext j; simp]
theorem Above.tail {n : ℕ} {f : Fin 8 → CellTallies nD τ sig Unit} (h : ∀ k, Above n (f k)) (j : ℕ) : Above n (Pf.tail f j) := by
  unfold Pf.tail
  refine Finset.sum_induction _ (Above n) (fun _ _ => Above.add) (Above.zero n) fun k _ => h k

/-- One chunk's credit on array `a` of device `c`. -/
def ow (c : Dev nD) (a : Fin 7) (k : Fin 8) : CellTallies nD τ sig Unit := tallyAt (cell c (kC a k)) () N

/-- What device `c` owes once the chunks before `n₁` of the first exchange are sent, before `n₂` of the second, before
    `n₃` of the forwarding. -/
def owed (c : Dev nD) (n₁ n₂ n₃ : ℕ) : CellTallies nD τ sig Unit :=
  tail (ow (ydev c) 3) n₁ + tail (fun k => ow (xdev c) 4 k + ow (ydev c) 5 k) n₂ + tail (ow (xdev c) 6) n₃

theorem above_fwd (c : Dev nD) (n : ℕ) : Above 3 (tail (ow (xdev c) 6) n) := Above.tail (fun k => Above.tally _ _ _ (by show (3 : ℕ) < 4; decide)) n
theorem above_snd (c : Dev nD) (n : ℕ) : Above 2 (tail (fun k => ow (xdev c) 4 k + ow (ydev c) 5 k) n) :=
  Above.tail (fun k => (Above.tally _ _ _ (by show (2 : ℕ) < 3; decide)).add (Above.tally _ _ _ (by show (2 : ℕ) < 3; decide))) n
theorem above_fst (c : Dev nD) (n : ℕ) : Above 1 (tail (ow (ydev c) 3) n) := Above.tail (fun k => Above.tally _ _ _ (by show (1 : ℕ) < 2; decide)) n
theorem above1 (c : Dev nD) (n₁ n₂ n₃ : ℕ) : Above 1 (owed c n₁ n₂ n₃) :=
  ((above_fst c n₁).add ((above_snd c n₂).mono (by decide))).add ((above_fwd c n₃).mono (by decide))
theorem above2 (c : Dev nD) (n₂ n₃ : ℕ) : Above 2 (owed c 8 n₂ n₃) := by
  unfold owed; rw [tail_end]; exact ((Above.zero 2).add (above_snd c n₂)).add ((above_fwd c n₃).mono (by decide))
theorem above3 (c : Dev nD) (n₃ : ℕ) : Above 3 (owed c 8 8 n₃) := by
  unfold owed; rw [tail_end, tail_end]; exact ((Above.zero 3).add (Above.zero 3)).add (above_fwd c n₃)
theorem owed_end (c : Dev nD) : owed c 8 8 8 = 0 := by unfold owed; rw [tail_end, tail_end, tail_end, add_zero, add_zero]

end Cert.KernelIdeal.Pf

end
-- ==== Proof.Rules.lean ====
/-
# The rules of the body's operations, in the protocol's terms

A copy to another device, the wait for one round of a cell, a local copy and its wait, the handshake: each one step,
from the shared records (every cell's invariant, every cell at its first round, the levels).
-/
module

public import proofs.«01_k».proof.Proof.Sched

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The shared records: every cell's invariant, under the name `K` it was made at, every cell at its first round, the levels. -/
def env (K : Dev nD × Ck → ℕ) : sProp 𝕄 :=
  iprop((bigSep Finset.univ fun ck : Dev nD × Ck => cellInv ER (sched m) (K ck) (cell ck.1 ck.2))
    ∗ (bigSep Finset.univ fun ck : Dev nD × Ck => reached ER (cell ck.1 ck.2) 0) ∗ levAts L lv)

instance env_persistent (K : Dev nD × Ck → ℕ) : BI.Persistent (env m K) := by unfold env; infer_instance

variable (K : Dev nD × Ck → ℕ)

theorem elim_all {I : Type} [Fintype I] [DecidableEq I] (Φ : I → sProp 𝕄) (i : I) : bigSep Finset.univ Φ ⊢ Φ i := bigSep_elim (Finset.mem_univ i)

theorem env_inv (c : Dev nD) (k : Ck) : env m K ⊢ cellInv ER (sched m) (K (c, k)) (cell c k) := by
  unfold env
  iintro ⟨H, -, -⟩
  iapply (elim_all (fun ck : Dev nD × Ck => (cellInv ER (sched m) (K ck) (cell ck.1 ck.2) : sProp 𝕄)) (c, k))
  iexact H
theorem env_reached (c : Dev nD) (k : Ck) : env m K ⊢ reached ER (cell c k) 0 := by
  unfold env
  iintro ⟨-, H, -⟩
  iapply (elim_all (fun ck : Dev nD × Ck => (reached ER (cell ck.1 ck.2) 0 : sProp 𝕄)) (c, k))
  iexact H
theorem env_lev : env m K ⊢ levAts L lv := by
  unfold env
  iintro ⟨-, -, H⟩
  iexact H

section Rules

variable (c : Dev nD) {sp sp' : Space} {e : EltTy}

/-- What pays a device's cell in a round, and where the device stands on its own cell. -/
abbrev tok (c : Dev nD) (k : Ck) (r : ℕ) : sProp 𝕄 := dutyTok ER (cell c k) r false
abbrev at_ (c : Dev nD) (k : Ck) (r : ℕ) : sProp 𝕄 := atPos ER (cell c k) r ∅ 0
abbrev cr (c : Dev nD) (k : Ck) : sProp 𝕄 := cred (tallyAt (cell c k) () N)

/-- A copy to another device: the sent share goes to this device's send cell, the rewritten landing chunk to the
    receiver's cell. -/
theorem send_rule (n : Dev nD) {src dst : Memref sig .tc .vmem S128x4096 .bf16} (x y : Dk) {hsc : dst.view.ref.isScScratch = false}
    {h₁ : src.view.WordExact} {h₂ : dst.view.WordExact} {h₃ : DmaTarget.Typed (nD := nD) (τ := τ) (p := .tc) .vmem (.dma (dsem y)) (.remote (Dev.tc n) dst (.dma (dsem x)) hsc)}
    {q : PosShare TreeShare} {w : S128x4096.Idx → Elt F .bf16} (r : ℕ) (hr : dutyK (.inr x) r = {false}) (hr' : dutyK (.inr y) 0 = {false})
    (hN : dst.view.dmaCredit = N)
    (hp₁ : has c src.view q w ⊢ payK m c (.inr x) r false) (hp₂ : has n dst.view fullShare w ⊢ payK m n (.inr y) 0 false)
    {O₀ : CellTallies nD τ sig Unit} (O : CellTallies nD τ sig Unit) (hO : O₀ = O + tallyAt (cell n (.inr y)) () N)
    {k : PG F} {Q : PUnit → sProp 𝕄} :
    iprop(env m K ∗ has c src.view q w ∗ room n dst.view ∗ due c O₀ ∗ tok c (.inr x) r ∗ reached ER (cell c (.inr x)) r ∗ tok n (.inr y) 0)
      ⊢ iprop(((cr c (.inr x) ∗ due c O) -∗ WP c k Q) -∗ WP c (sendP n src dst (dsem x) (dsem y) hsc h₁ h₂ h₃ k) Q) := by
  unfold has at hp₁ hp₂
  unfold has room due
  iintro ⟨#HE, ⟨%f, %hf, Hs⟩, ⟨%g, Hd⟩, ⟨%W, HO⟩, Ht₁, Hr₁, Ht₂⟩ Hk
  iapply (Rounds.wp_send_pointsTo 𝒱₀ ER (sched m) (c : Thread nD τ) none (c' := (n : Thread nD τ)) (src := src) (dst := dst)
    (sS := .dma (dsem x)) (sem := .dma (dsem y)) (q := q) (fs := f) (fd := g) (κ₁ := K (c, .inr x)) (κ₂ := K (n, .inr y))
    (r₁ := r) (r₂ := 0) (d₁ := false) (d₂ := false)
    (by rw [show ((c : Thread nD τ), SemLoc.dma (dsem x)) = cell c (.inr x) from rfl, duties_cell, hr]; exact Finset.mem_singleton_self _)
    (by rw [show ((n : Thread nD τ), SemLoc.dma (dsem y)) = cell n (.inr y) from rfl, duties_cell, hr']; exact Finset.mem_singleton_self _)
    () () N hN (amount_cell m c (.inr x) r false) (amount_cell m n (.inr y) 0 false) O hO (W := W)
    (by
      rw [show ((c : Thread nD τ), SemLoc.dma (dsem x)) = cell c (.inr x) from rfl, payload_cell]
      refine BI.Entails.trans (show (_ : sProp 𝕄) ⊢ _ from ?_) hp₁
      iintro H; iexists f; isplitr; · ipureintro; exact hf
      iexact H)
    (by
      rw [show ((n : Thread nD τ), SemLoc.dma (dsem y)) = cell n (.inr y) from rfl, payload_cell]
      refine BI.Entails.trans (show (_ : sProp 𝕄) ⊢ _ from ?_) hp₂
      iintro H; iexists _; isplitr; rotate_left; · iexact H
      ipureintro; rw [View.read_write_univ]; exact hf)) $$ [Hs Hd HO Ht₁ Hr₁ Ht₂]
  · isplitr; · iapply (env_inv m K c (.inr x)); iexact HE
    isplitr; · iapply (env_inv m K n (.inr y)); iexact HE
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iapply (env_reached m K n (.inr y)); iexact HE
  iintro ⟨Hc, HO⟩
  iapply Hk
  isplitl [Hc]; · iexact Hc
  iexists W; iexact HO

/-- The wait for the rest of a cell's round: what the round hands over. -/
theorem round_rule {src : Memref sig .tc sp S128x4096 .bf16} {dst : Memref sig .tc sp' S128x4096 .bf16} (x : Dk)
    {h₁ : src.view.WordExact} {h₂ : dst.view.WordExact} (r : ℕ) (hr : dutyK (.inr x) r = {false}) (hN : dst.view.dmaCredit = N)
    {O : CellTallies nD τ sig Unit} (n : ℕ) (hO : Above n O) (hn : lvK (.inr x) ≤ n) {k : PG F} {Q : PUnit → sProp 𝕄} :
    iprop(env m K ∗ cr c (.inr x) ∗ due c O ∗ at_ c (.inr x) r)
      ⊢ iprop(((payK m c (.inr x) r false ∗ at_ c (.inr x) (r + 1) ∗ reached ER (cell c (.inr x)) (r + 1) ∗ due c O) -∗ WP c k Q)
          -∗ WP c (waitP (dsem x) src dst h₁ h₂ k) Q) := by
  unfold due
  iintro ⟨#HE, Hc, ⟨%W, HO⟩, Ha⟩ Hk
  iapply (Rounds.wp_wait_rest_token 𝒱₀ ER (sched m) (c : Thread nD τ) none (κ := K (c, .inr x)) (sm := .dma (dsem x)) (k' := N)
    (by rw [← hN]; exact wpE_waitDma2_eq 𝒱₀ (c : Thread nD τ) none Set.univ) (Set.mem_univ _) () (O := O) (W := W) (R := r) (m := 0) (T := ∅)
    (by rw [Nat.zero_add]; exact (expect_dma m c x r hr).symm)) $$ [Hc HO Ha]
  · isplitr; · iapply (env_inv m K c (.inr x)); iexact HE
    isplitl [Hc]; · iexact Hc
    isplitl [HO]; · iexact HO
    isplitr
    · iapply (hO.mayWait c (.dma (dsem x)) ((lv_cell c (.inr x)).trans_le hn)); iapply (env_lev m K); iexact HE
    iexact Ha
  iintro ⟨HO, Ha, Hr, Hp⟩
  ihave Hp' := (Entails.of_eq (rest_dma m c x r hr)) $$ Hp
  iapply Hk
  isplitl [Hp']; · iexact Hp'
  isplitl [Ha]; · iexact Ha
  isplitl [Hr]; · iexact Hr
  iexists _; iexact HO

/-- A cell after its last round gives its counter back. -/
theorem close_rule (k : Ck) (R : ℕ) (hR : ∀ r, R ≤ r → dutyK k r = ∅) :
    iprop(env m K ∗ at_ c k R) ⊢ (iprop(|={Set.univ}=> semVal (cell c k) 0) : sProp 𝕄) := by
  iintro ⟨#HE, Ha⟩
  iapply (Rounds.cell_close ER (sched m) (Set.mem_univ (K (c, k))) (fun h => h) (R := R) (fun r h => (duties_cell m c k r).trans (hR r h)))
  isplitr; · iapply (env_inv m K c k); iexact HE
  iexact Ha

/-- The wait for a cell's only round, which then gives its counter back. -/
theorem last_rule {src : Memref sig .tc sp S128x4096 .bf16} {dst : Memref sig .tc sp' S128x4096 .bf16} (x : Dk)
    {h₁ : src.view.WordExact} {h₂ : dst.view.WordExact} (r : ℕ) (hr : dutyK (.inr x) r = {false}) (hR : ∀ r', r + 1 ≤ r' → dutyK (.inr x) r' = ∅)
    (hN : dst.view.dmaCredit = N)
    {O : CellTallies nD τ sig Unit} (n : ℕ) (hO : Above n O) (hn : lvK (.inr x) ≤ n) {k : PG F} {Q : PUnit → sProp 𝕄} :
    iprop(env m K ∗ cr c (.inr x) ∗ due c O ∗ at_ c (.inr x) r)
      ⊢ iprop(((payK m c (.inr x) r false ∗ idle c (dsem x) ∗ due c O) -∗ WP c k Q)
          -∗ WP c (waitP (dsem x) src dst h₁ h₂ k) Q) := by
  iintro ⟨#HE, Hc, HO, Ha⟩ Hk
  iapply (round_rule m K c x r hr hN n hO hn) $$ [Hc HO Ha]
  · isplitr; · iexact HE
    isplitl [Hc]; · iexact Hc
    isplitl [HO]; · iexact HO
    iexact Ha
  iintro ⟨Hp, Ha, -, HO⟩
  imod (close_rule m K c (.inr x) (r + 1) hR) $$ [Ha] with Hz
  · isplitr; · iexact HE
    iexact Ha
  iapply Hk
  isplitl [Hp]; · iexact Hp
  isplitl [Hz]; · iexact Hz
  iexact HO

/-- The wait for a local copy, whatever is owed above level 0. -/
theorem land_rule {src : Memref sig .tc sp S128x4096 e} {dst : Memref sig .tc sp' S128x4096 e} (l : Lk)
    {h₁ : src.view.WordExact} {h₂ : dst.view.WordExact} {O : CellTallies nD τ sig Unit} (n : ℕ) (hO : Above n O) {D : sProp 𝕄} {k : PG F} {Q : PUnit → sProp 𝕄} :
    iprop(env m K ∗ fly c (lsem l) dst D ∗ due c O)
      ⊢ iprop((iprop(D ∗ idle c (lsem l) ∗ due c O) -∗ WP c k Q) -∗ WP c (waitP (lsem l) src dst h₁ h₂ k) Q) := by
  iintro ⟨#HE, HF, HO⟩ Hk
  iapply (wait_rule c) $$ [HF HO]
  · isplitl [HF]; · iexact HF
    isplitl [HO]; · iexact HO
    iapply ((hO.mono (Nat.zero_le n)).mayWait c (.dma (lsem l)) (by
      show (ckOf (.dma (lsem l))).elim 0 lvK ≤ 0
      rw [ckOf_local]; exact le_rfl))
    iapply (env_lev m K); iexact HE
  iexact Hk

/-- The two signals to the neighbours' barrier cells and the wait for theirs: this device's landing buffers go out, the
    neighbours' come in, and the barrier cell gives its counter back. -/
theorem meet_rule (O : CellTallies nD τ sig Unit) (hO : Above 1 O) {k : PG F} {Q : PUnit → sProp 𝕄} :
    iprop(env m K ∗ due c (O + tallyAt (cell (ydev c) kB) () 1 + tallyAt (cell (xdev c) kB) () 1)
        ∗ dutyTok ER (cell (xdev c) kB) 0 true ∗ dutyTok ER (cell (ydev c) kB) 0 false ∗ barX (xdev c) ∗ barY (ydev c)
        ∗ cred (tallyAt (cell c kB) () 2) ∗ at_ c kB 0)
      ⊢ iprop(((barX c ∗ barY c ∗ semVal (cell c kB) 0 ∗ due c O) -∗ WP c k Q)
          -∗ WP c (knock (xdev c) (knock (ydev c) (meet k))) Q) := by
  unfold due
  iintro ⟨#HE, ⟨%W, HO⟩, Htx, Hty, HX, HY, Hc, Ha⟩ Hk
  iapply (Rounds.wp_signal 𝒱₀ ER (sched m) (c : Thread nD τ) none (dst := (xdev c : Thread nD τ)) (sem := barS) (κ := K (xdev c, kB)) (r := 0) (d := true)
    (k' := 1) (by rw [show ((xdev c : Thread nD τ), SemLoc.reg barS) = cell (xdev c) kB from rfl, duties_cell]; exact Finset.mem_univ _)
    (amount_cell m (xdev c) kB 0 true) () (O + tallyAt (cell (ydev c) kB) () 1) rfl) $$ [HO Htx HX]
  · isplitr; · iapply (env_inv m K (xdev c) kB); iexact HE
    isplitl [HO]; · iexact HO
    isplitl [Htx]; · iexact Htx
    isplitl [HX]
    · iapply (Entails.of_eq (show barX (xdev c) = _ from (payload_cell m (xdev c) kB 0 true).symm)); iexact HX
    iapply (env_reached m K (xdev c) kB); iexact HE
  iintro HO
  iapply (Rounds.wp_signal 𝒱₀ ER (sched m) (c : Thread nD τ) none (dst := (ydev c : Thread nD τ)) (sem := barS) (κ := K (ydev c, kB)) (r := 0) (d := false)
    (k' := 1) (by rw [show ((ydev c : Thread nD τ), SemLoc.reg barS) = cell (ydev c) kB from rfl, duties_cell]; exact Finset.mem_univ _)
    (amount_cell m (ydev c) kB 0 false) () O rfl) $$ [HO Hty HY]
  · isplitr; · iapply (env_inv m K (ydev c) kB); iexact HE
    isplitl [HO]; · iexact HO
    isplitl [Hty]; · iexact Hty
    isplitl [HY]
    · iapply (Entails.of_eq (show barY (ydev c) = _ from (payload_cell m (ydev c) kB 0 false).symm)); iexact HY
    iapply (env_reached m K (ydev c) kB); iexact HE
  iintro HO
  iapply (Rounds.wp_wait_rest_token 𝒱₀ ER (sched m) (c : Thread nD τ) none (κ := K (c, kB)) (sm := .reg barS) (k' := 2)
    (wpE_semWait_eq 𝒱₀ (c : Thread nD τ) none Set.univ) (Set.mem_univ _) () (O := O) (W := W) (R := 0) (m := 0) (T := ∅)
    (by rw [Nat.zero_add]; exact (expect_bar m c).symm)) $$ [Hc HO Ha]
  · isplitr; · iapply (env_inv m K c kB); iexact HE
    isplitl [Hc]; · iexact Hc
    isplitl [HO]; · iexact HO
    isplitr
    · iapply (hO.mayWait c (.reg barS) (lv_cell c kB).le); iapply (env_lev m K); iexact HE
    iexact Ha
  iintro ⟨HO, Ha, -, Hp⟩
  ihave Hp' := (Entails.of_eq (rest_bar m c)) $$ Hp
  icases Hp' with ⟨HY, HX⟩
  imod (close_rule m K c kB 1 (fun r h => if_neg (by omega))) $$ [Ha] with Hz
  · isplitr; · iexact HE
    iexact Ha
  iapply Hk
  isplitl [HX]; · iexact HX
  isplitl [HY]; · iexact HY
  isplitl [Hz]; · iexact Hz
  iexists _; iexact HO

end Rules

end Cert.KernelIdeal.Pf

end
-- ==== Proof.Loops.lean ====
/-
# The loops

What eight rounds take and leave, from what each round does; and the double buffers the rounds fetch ahead into.
-/
module

public import proofs.«01_k».proof.Proof.Rules

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

theorem list8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl
theorem list4 (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl
theorem list2 (Φ : Fin 2 → sProp 𝕄) : bigSep Finset.univ Φ = iprop(Φ 0 ∗ Φ 1) := by
  rw [bigSep_univ_eq_bigSepL [0, 1] (by decide) (by decide)]; rfl

/-- Eight rounds: what each takes of its own and what it carries on. -/
theorem loop8_rule {f : Fin 8 → PG F → PG F} {A B : Fin 8 → sProp 𝕄} {S : ℕ → sProp 𝕄}
    (h : ∀ (k : Fin 8) (rest : PG F) (Q : PUnit → sProp 𝕄),
      iprop(env m K ∗ A k ∗ S k.val) ⊢ iprop(((B k ∗ S (k.val + 1)) -∗ WP c rest Q) -∗ WP c (f k rest) Q))
    {k : PG F} {Q : PUnit → sProp 𝕄} :
    iprop(env m K ∗ bigSep Finset.univ A ∗ S 0)
      ⊢ iprop(((bigSep Finset.univ B ∗ S 8) -∗ WP c k Q) -∗ WP c (loop8 f k) Q) := by
  have h' : ∀ (k : Fin 8) (n n' : ℕ) (_ : k.val = n) (_ : k.val + 1 = n') (rest : PG F),
      iprop(env m K ∗ A k ∗ S n) ⊢ iprop(((B k ∗ S n') -∗ WP c rest Q) -∗ WP c (f k rest) Q) := by
    rintro k n n' rfl rfl rest; exact h k rest Q
  rw [list8, list8]
  iintro ⟨#HE, ⟨A0, A1, A2, A3, A4, A5, A6, A7⟩, HS⟩ Hk
  iapply (h' 0 0 1 rfl rfl _) $$ [A0 HS]
  · isplitr; · iexact HE
    isplitl [A0]; · iexact A0
    iexact HS
  iintro ⟨B0, HS⟩
  iapply (h' 1 1 2 rfl rfl _) $$ [A1 HS]
  · isplitr; · iexact HE
    isplitl [A1]; · iexact A1
    iexact HS
  iintro ⟨B1, HS⟩
  iapply (h' 2 2 3 rfl rfl _) $$ [A2 HS]
  · isplitr; · iexact HE
    isplitl [A2]; · iexact A2
    iexact HS
  iintro ⟨B2, HS⟩
  iapply (h' 3 3 4 rfl rfl _) $$ [A3 HS]
  · isplitr; · iexact HE
    isplitl [A3]; · iexact A3
    iexact HS
  iintro ⟨B3, HS⟩
  iapply (h' 4 4 5 rfl rfl _) $$ [A4 HS]
  · isplitr; · iexact HE
    isplitl [A4]; · iexact A4
    iexact HS
  iintro ⟨B4, HS⟩
  iapply (h' 5 5 6 rfl rfl _) $$ [A5 HS]
  · isplitr; · iexact HE
    isplitl [A5]; · iexact A5
    iexact HS
  iintro ⟨B5, HS⟩
  iapply (h' 6 6 7 rfl rfl _) $$ [A6 HS]
  · isplitr; · iexact HE
    isplitl [A6]; · iexact A6
    iexact HS
  iintro ⟨B6, HS⟩
  iapply (h' 7 7 8 rfl rfl _) $$ [A7 HS]
  · isplitr; · iexact HE
    isplitl [A7]; · iexact A7
    iexact HS
  iintro ⟨B7, HS⟩
  iapply Hk
  isplitr [HS]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  iexact HS

/-! ## Fetching one chunk ahead into a buffer of two slots -/

/-- The other slot. -/
def oth (s : Fin 2) : Fin 2 := ⟨1 - s.val, by omega⟩

section Slots

variable (M : B2) (S : Fin 2 → Lk) (src : Fin 8 → Memref sig .tc .hbm S128x4096 .f32) (w : Fin 8 → S128x4096.Idx → Elt F .f32)

/-- A slot in nobody's use. -/
def slot (s : Fin 2) : sProp 𝕄 := iprop(room c (c2 M s).view ∗ idle c (lsem (S s)))
/-- Chunk `k` on its way into its slot. -/
def inc (k : Fin 8) : sProp 𝕄 :=
  fly c (lsem (S (par k))) (c2 M (par k)) iprop(has c (c2 M (par k)).view fullShare (w k) ∗ has c (src k).view fullShare (w k))
/-- Before round `n`: its chunk on its way, the other slot free; after the last round both free. -/
def slots (n : ℕ) : sProp 𝕄 :=
  if h : n < 8 then iprop(inc c M S src w ⟨n, h⟩ ∗ slot c M S (oth (par ⟨n, h⟩))) else iprop(slot c M S 0 ∗ slot c M S 1)
/-- During round `k`: the next chunk on its way, or the slot it would have gone into. -/
def ahead (k : Fin 8) : sProp 𝕄 := if h : k.val + 1 < 8 then inc c M S src w ⟨k.val + 1, h⟩ else slot c M S (oth (par k))
/-- What is held of the chunk after `k`. -/
def nxt (P : Fin 8 → sProp 𝕄) (k : Fin 8) : sProp 𝕄 := if h : k.val + 1 < 8 then P ⟨k.val + 1, h⟩ else iprop(emp)

theorem nxt_shift (P : Fin 8 → sProp 𝕄) : bigSep Finset.univ P = iprop(P 0 ∗ bigSep Finset.univ (nxt P)) := by
  rw [list8, list8]
  show _ = iprop(P 0 ∗ P 1 ∗ P 2 ∗ P 3 ∗ P 4 ∗ P 5 ∗ P 6 ∗ P 7 ∗ emp)
  exact congrArg (fun X => iprop(P 0 ∗ P 1 ∗ P 2 ∗ P 3 ∗ P 4 ∗ P 5 ∗ P 6 ∗ X)) (equiv_iff.mp sep_emp).symm

theorem slots_at (k : Fin 8) : slots c M S src w k.val = iprop(inc c M S src w k ∗ slot c M S (oth (par k))) := dif_pos k.isLt
theorem slots_next (k : Fin 8) : (iprop(ahead c M S src w k ∗ slot c M S (par k)) : sProp 𝕄) ⊢ slots c M S src w (k.val + 1) := by
  unfold slots ahead
  by_cases h : k.val + 1 < 8
  · rw [dif_pos h, dif_pos h, show oth (par ⟨k.val + 1, h⟩) = par k from Fin.ext (by show 1 - (k.val + 1) % 2 = k.val % 2; omega)]
  · have hk : k = 7 := Fin.ext (by show k.val = 7; omega)
    subst hk
    rw [dif_neg h, dif_neg h]
    iintro ⟨H1, H2⟩
    isplitl [H1]; · iexact H1
    iexact H2

/-- The next chunk's fetch. -/
theorem fetch_rule (k : Fin 8) (h : k.val + 1 < 8) {h₁ : (src ⟨k.val + 1, h⟩).view.WordExact} {h₂ : (c2 M (par ⟨k.val + 1, h⟩)).view.WordExact}
    {h₃ : DmaTarget.Typed (nD := nD) (τ := τ) (p := .tc) .hbm (.dma (lsem (S (par ⟨k.val + 1, h⟩)))) (.here (c2 M (par ⟨k.val + 1, h⟩)))} {rest : PG F} {Q : PUnit → sProp 𝕄} :
    iprop(nxt (fun k => has c (src k).view fullShare (w k)) k ∗ slot c M S (oth (par k)))
      ⊢ iprop((ahead c M S src w k -∗ WP c rest Q)
          -∗ WP c (copyP (src ⟨k.val + 1, h⟩) (c2 M (par ⟨k.val + 1, h⟩)) (lsem (S (par ⟨k.val + 1, h⟩))) h₁ h₂ h₃ rest) Q) := by
  unfold nxt ahead slot
  rw [dif_pos h, dif_pos h, show oth (par k) = par ⟨k.val + 1, h⟩ from Fin.ext (by show 1 - k.val % 2 = (k.val + 1) % 2; omega)]
  iintro ⟨Hs, Hr, Hi⟩ Hk
  iapply (copy_rule c) $$ [Hs Hr Hi]
  · isplitl [Hs]; · iexact Hs
    isplitl [Hr]; · iexact Hr
    iexact Hi
  iintro H
  iapply Hk
  unfold inc
  iexact H

theorem fetch_none (k : Fin 8) (h : ¬ k.val + 1 < 8) :
    (iprop(nxt (fun k => has c (src k).view fullShare (w k)) k ∗ slot c M S (oth (par k))) : sProp 𝕄) ⊢ ahead c M S src w k := by
  unfold ahead
  rw [dif_neg h]
  iintro ⟨-, H⟩
  iexact H

/-- The first chunk's fetch. -/
theorem fetch_first {h₁ : (src 0).view.WordExact} {h₂ : (c2 M 0).view.WordExact}
    {h₃ : DmaTarget.Typed (nD := nD) (τ := τ) (p := .tc) .hbm (.dma (lsem (S 0))) (.here (c2 M 0))} {rest : PG F} {Q : PUnit → sProp 𝕄} :
    iprop(has c (src 0).view fullShare (w 0) ∗ slot c M S 0 ∗ slot c M S 1)
      ⊢ iprop((slots c M S src w 0 -∗ WP c rest Q) -∗ WP c (copyP (src 0) (c2 M 0) (lsem (S 0)) h₁ h₂ h₃ rest) Q) := by
  unfold slots
  rw [dif_pos (show 0 < 8 by decide)]
  iintro ⟨Hs, H0, H1⟩ Hk
  unfold slot
  icases H0 with ⟨Hr, Hi⟩
  iapply (copy_rule c) $$ [Hs Hr Hi]
  · isplitl [Hs]; · iexact Hs
    isplitl [Hr]; · iexact Hr
    iexact Hi
  iintro H
  iapply Hk
  unfold inc
  isplitl [H]; · iexact H
  iexact H1

end Slots

end Cert.KernelIdeal.Pf

end
-- ==== Proof.Phases.lean ====
/-
# The rounds

Each loop's round once, at a symbolic chunk: what it takes of the chunk's resources and what it leaves of them.
-/
module

public import proofs.«01_k».proof.Proof.Loops

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-! ## The resources of a chunk -/

abbrev lPool (s : Fin 2) : Lk := .inl s
abbrev lRbuf (s : Fin 2) : Lk := .inr (.inl s)
abbrev lOut (k : Fin 8) : Lk := .inr (.inr k)

/-- The input chunks, as the fetches read them. -/
abbrev wY (k : Fin 8) : S128x4096.Idx → Elt F .f32 := sq (vY m c k)
abbrev wMe (k : Fin 8) : S128x4096.Idx → Elt F .f32 := sq (vMe m c k)
abbrev wR (k : Fin 8) : S128x4096.Idx → Elt F .f32 := sq (unsq (vR m c k))
abbrev hasY (k : Fin 8) : sProp 𝕄 := has c (partY c k).view fullShare (wY m c k)
abbrev hasMe (k : Fin 8) : sProp 𝕄 := has c (partMe c k).view fullShare (wMe m c k)
abbrev hasR (k : Fin 8) : sProp 𝕄 := has c (residMe c k).view fullShare (wR m c k)

/-- A finished chunk and its three shares. -/
abbrev fin_ (q : PosShare TreeShare) (k : Fin 8) : sProp 𝕄 := has c (c8 agSendM k).view q (sq (agT m c k))
/-- The neighbours' finished chunks, landed. -/
abbrev landX (q : PosShare TreeShare) (k : Fin 8) : sProp 𝕄 := has c (c8 agxM k).view q (sq (agT m (xdev c) k))
abbrev landY (q : PosShare TreeShare) (k : Fin 8) : sProp 𝕄 := has c (c8 agyM k).view q (sq (agT m (ydev c) k))
abbrev landD (q : PosShare TreeShare) (k : Fin 8) : sProp 𝕄 := has c (c8 agdM k).view q (sq (agT m (ydev (xdev c)) k))
/-- The result's chunks, written. -/
abbrev resMe (k : Fin 8) : sProp 𝕄 := has c (outMe c k).view fullShare (sq (agT m c k))
abbrev resX (k : Fin 8) : sProp 𝕄 := has c (outX c k).view fullShare (sq (agT m (xdev c) k))
abbrev resY (k : Fin 8) : sProp 𝕄 := has c (outY c k).view fullShare (sq (agT m (ydev c) k))
abbrev resD (k : Fin 8) : sProp 𝕄 := has c (outD c k).view fullShare (sq (agT m (ydev (xdev c)) k))
/-- The four copies to the result, on their way. -/
abbrev flyMe (k : Fin 8) : sProp 𝕄 := fly c (lsem (lOut k)) (outMe c k) iprop(resMe m c k ∗ fin_ m c qo k)
abbrev flyX (k : Fin 8) : sProp 𝕄 := fly c (lsem (lOut k)) (outX c k) iprop(resX m c k ∗ landX m c fullShare k)
abbrev flyY (k : Fin 8) : sProp 𝕄 := fly c (lsem (lOut k)) (outY c k) iprop(resY m c k ∗ landY m c fullShare.right k)
abbrev flyD (k : Fin 8) : sProp 𝕄 := fly c (lsem (lOut k)) (outD c k) iprop(resD m c k ∗ landD m c fullShare k)

abbrev slotsY (n : ℕ) : sProp 𝕄 := slots c poolM lPool (partY c) (wY m c) n
abbrev slotsMe (n : ℕ) : sProp 𝕄 := slots c poolM lPool (partMe c) (wMe m c) n
abbrev slotsR (n : ℕ) : sProp 𝕄 := slots c rbufM lRbuf (residMe c) (wR m c) n

/-- The scale, staged. -/
abbrev scale : sProp 𝕄 := iprop((c : Thread nD τ).loc cc0_stg0_0 ↦{fullShare} gam m c)

/-! ## What is owed, step by step -/

theorem owed_fst (k : Fin 8) : owed c k.val 0 0 = owed c (k.val + 1) 0 0 + tallyAt (cell (ydev c) (kC 3 k)) () N := by
  unfold owed
  rw [tail_split (ow (ydev c) 3) k]
  show _ = _ + ow (ydev c) 3 k
  ac_rfl
theorem owed_snd (k : Fin 8) : owed c 8 k.val 0 = (owed c 8 (k.val + 1) 0 + tallyAt (cell (ydev c) (kC 5 k)) () N) + tallyAt (cell (xdev c) (kC 4 k)) () N := by
  unfold owed
  rw [tail_split (fun k => ow (xdev c) 4 k + ow (ydev c) 5 k) k]
  show _ = (_ + ow (ydev c) 5 k) + ow (xdev c) 4 k
  ac_rfl
theorem owed_fwd (k : Fin 8) : owed c 8 8 k.val = owed c 8 8 (k.val + 1) + tallyAt (cell (xdev c) (kC 6 k)) () N := by
  unfold owed
  rw [tail_split (ow (xdev c) 6) k]
  show _ = _ + ow (xdev c) 6 k
  ac_rfl

/-! ## What each copy pays -/

theorem credit_c8 (M : B8) (k : Fin 8) : (c8 M k).view.dmaCredit = N := rfl

theorem pay0 {w : S128x4096.Idx → Elt F .bf16} (k : Fin 8) : has c (c8 rsSendM k).view fullShare w ⊢ payK m c (kC 0 k) 0 false := has_room c
theorem pay3 (k : Fin 8) : has (ydev c) (c8 rsRecvM k).view fullShare (sq (rsT m c k)) ⊢ payK m (ydev c) (kC 3 k) 0 false := by
  rw [show payK m (ydev c) (kC 3 k) 0 false = has (ydev c) (c8 rsRecvM k).view fullShare (sq (rsT m c k)) from by
    show has (ydev c) (c8 rsRecvM k).view fullShare (sq (e := .bf16) (rsT m (ydev (ydev c)) k)) = _; rw [ydev_ydev]]
theorem pay4 (k : Fin 8) : has (xdev c) (c8 agxM k).view fullShare (sq (agT m c k)) ⊢ payK m (xdev c) (kC 4 k) 0 false := by
  rw [show payK m (xdev c) (kC 4 k) 0 false = has (xdev c) (c8 agxM k).view fullShare (sq (agT m c k)) from by
    show has (xdev c) (c8 agxM k).view fullShare (sq (e := .bf16) (agT m (xdev (xdev c)) k)) = _; rw [xdev_xdev]]
theorem pay5 (k : Fin 8) : has (ydev c) (c8 agyM k).view fullShare (sq (agT m c k)) ⊢ payK m (ydev c) (kC 5 k) 0 false := by
  rw [show payK m (ydev c) (kC 5 k) 0 false = has (ydev c) (c8 agyM k).view fullShare (sq (agT m c k)) from by
    show has (ydev c) (c8 agyM k).view fullShare (sq (e := .bf16) (agT m (ydev (ydev c)) k)) = _; rw [ydev_ydev]]
theorem pay6 (k : Fin 8) : has (xdev c) (c8 agdM k).view fullShare (sq (agT m (ydev c) k)) ⊢ payK m (xdev c) (kC 6 k) 0 false := by
  rw [show payK m (xdev c) (kC 6 k) 0 false = has (xdev c) (c8 agdM k).view fullShare (sq (agT m (ydev c) k)) from by
    show has (xdev c) (c8 agdM k).view fullShare (sq (e := .bf16) (agT m (ydev (xdev (xdev c))) k)) = _; rw [xdev_xdev]]

/-! ## The first loop -/

abbrev S1 (n : ℕ) : sProp 𝕄 := iprop(slotsY m c n ∗ due c (owed c n 0 0))

/-- A round of the first loop. -/
theorem round1_rule (k : Fin 8) (rest : PG F) (Q : PUnit → sProp 𝕄) :
    iprop(env m K ∗ (nxt (hasY m c) k ∗ room c (c8 rsSendM k).view ∗ room (ydev c) (c8 rsRecvM k).view
        ∗ tok c (kC 0 k) 0 ∗ tok (ydev c) (kC 3 k) 0) ∗ S1 m c k.val)
      ⊢ iprop((((hasY m c k ∗ cr c (kC 0 k)) ∗ S1 m c (k.val + 1)) -∗ WP c rest Q) -∗ WP c (round1 c k rest) Q) := by
  unfold S1
  iintro ⟨#HE, ⟨Hn, Hs, Hd, Ht, Ht'⟩, HS, HO⟩ Hk
  ihave HS' := (Entails.of_eq (slots_at c poolM lPool (partY c) (wY m c) k)) $$ HS
  icases HS' with ⟨Hf, Ho⟩
  unfold round1
  have main : iprop(env m K ∗ ahead c poolM lPool (partY c) (wY m c) k ∗ inc c poolM lPool (partY c) (wY m c) k ∗ room c (c8 rsSendM k).view
        ∗ room (ydev c) (c8 rsRecvM k).view ∗ tok c (kC 0 k) 0 ∗ tok (ydev c) (kC 3 k) 0 ∗ due c (owed c k.val 0 0))
      ⊢ iprop((((hasY m c k ∗ cr c (kC 0 k)) ∗ S1 m c (k.val + 1)) -∗ WP c rest Q)
          -∗ WP c (waitP (poolS (par k)) (partY c k) (c2 poolM (par k)) (words_partY c k) (words_c2 _ _)
  (load2 poolM (par k) fun v =>
  load8 rsSendM k fun _ =>
  store8 rsSendW k (k0_pay1 v)
  (sendP (ydev c) (c8 rsSendM k) (c8 rsRecvM k) (rsSendS k) (rsRecvS k) rfl (words_c8 rsSendW k) (words_c8 rsRecvW k) ⟨⟨rfl, Or.inl rfl⟩, trivial⟩ rest))) Q) := by
    unfold S1
    iintro ⟨#HE, Ha, Hf, Hs, Hd, Ht, Ht', HO⟩ Hk
    unfold inc
    iapply (land_rule m K c (lPool (par k)) 1 (above1 c k.val 0 0)) $$ [Hf HO]
    · isplitr; · iexact HE
      isplitl [Hf]; · iexact Hf
      iexact HO
    iintro ⟨⟨Hv, Hp⟩, Hi, HO⟩
    iapply (load2_rule c) $$ Hv
    iintro Hv
    iapply (load8_room c) $$ Hs
    iintro %_ Hs
    iapply (store8_rule c) $$ Hs
    iintro Hs
    iapply (send_rule m K c (ydev c) (.inl (0, k)) (.inl (3, k)) 0 rfl rfl (credit_c8 _ k) (pay0 m c k) (pay3 m c k)
      (owed c (k.val + 1) 0 0) (owed_fst c k)) $$ [Hs Hd Ht Ht' HO]
    · isplitr; · iexact HE
      isplitl [Hs]; · iexact Hs
      isplitl [Hd]; · iexact Hd
      isplitl [HO]; · iexact HO
      isplitl [Ht]; · iexact Ht
      isplitr; · iapply (env_reached m K c (kC 0 k)); iexact HE
      iexact Ht'
    iintro ⟨Hc, HO⟩
    iapply Hk
    isplitl [Hp Hc]
    · isplitl [Hp]; · iexact Hp
      iexact Hc
    isplitr [HO]
    · iapply (slots_next c poolM lPool (partY c) (wY m c) k)
      isplitl [Ha]; · iexact Ha
      unfold slot
      isplitl [Hv]; · iapply (has_room c); iexact Hv
      iexact Hi
    iexact HO
  unfold nextP fetchY
  split
  · next h =>
    iapply (fetch_rule c poolM lPool (partY c) (wY m c) k h) $$ [Hn Ho]
    · isplitl [Hn]; · iexact Hn
      iexact Ho
    iintro Ha
    iapply main $$ [Ha Hf Hs Hd Ht Ht' HO]
    · isplitr; · iexact HE
      isplitl [Ha]; · iexact Ha
      isplitl [Hf]; · iexact Hf
      isplitl [Hs]; · iexact Hs
      isplitl [Hd]; · iexact Hd
      isplitl [Ht]; · iexact Ht
      isplitl [Ht']; · iexact Ht'
      iexact HO
    iexact Hk
  · next h =>
    ihave Ha := (fetch_none c poolM lPool (partY c) (wY m c) k h) $$ [Hn Ho]
    · isplitl [Hn]; · iexact Hn
      iexact Ho
    iapply main $$ [Ha Hf Hs Hd Ht Ht' HO]
    · isplitr; · iexact HE
      isplitl [Ha]; · iexact Ha
      isplitl [Hf]; · iexact Hf
      isplitl [Hs]; · iexact Hs
      isplitl [Hd]; · iexact Hd
      isplitl [Ht]; · iexact Ht
      isplitl [Ht']; · iexact Ht'
      iexact HO
    iexact Hk

/-! ## The second loop -/

abbrev S2 (n : ℕ) : sProp 𝕄 := iprop(slotsMe m c n ∗ slotsR m c n ∗ scale m c ∗ due c (owed c 8 n 0))

/-- A round of the second loop, once the next chunk's fetches are started. -/
theorem round2_main (k : Fin 8) (rest : PG F) (Q : PUnit → sProp 𝕄) :
    iprop(env m K ∗ (room c (c8 agSendM k).view ∗ room (xdev c) (c8 agxM k).view ∗ room (ydev c) (c8 agyM k).view
        ∗ tok c (kC 1 k) 0 ∗ tok c (kC 2 k) 0 ∗ tok (xdev c) (kC 4 k) 0 ∗ tok (ydev c) (kC 5 k) 0
        ∗ at_ c (kC 3 k) 0 ∗ cr c (kC 3 k) ∗ room c (outMe c k).view ∗ idle c (lsem (lOut k)))
        ∗ ahead c poolM lPool (partMe c) (wMe m c) k ∗ inc c poolM lPool (partMe c) (wMe m c) k
        ∗ ahead c rbufM lRbuf (residMe c) (wR m c) k ∗ inc c rbufM lRbuf (residMe c) (wR m c) k
        ∗ scale m c ∗ due c (owed c 8 k.val 0))
      ⊢ iprop((((hasMe m c k ∗ hasR m c k ∗ room c (c8 rsRecvM k).view ∗ cr c (kC 1 k) ∗ cr c (kC 2 k) ∗ flyMe m c k ∗ idle c (dsem (.inl (3, k))))
          ∗ S2 m c (k.val + 1)) -∗ WP c rest Q)
        -∗ WP c (waitP (poolS (par k)) (partMe c k) (c2 poolM (par k)) (words_partMe c k) (words_c2 _ _)
  (waitP (rbufS (par k)) (residMe c k) (c2 rbufM (par k)) (words_residMe c k) (words_c2 _ _)
  (waitP (rsRecvS k) (c8 rsRecvM k) (c8 rsRecvM k) (words_c8 rsRecvW k) (words_c8 rsRecvW k)
  (load2 poolM (par k) fun v =>
  load8 rsRecvM k fun r =>
  load2 rbufM (par k) fun x =>
  loadG fun g =>
  load8 agSendM k fun _ =>
  store8 agSendW k (k0_pay24 v r x g)
  (sendP (xdev c) (c8 agSendM k) (c8 agxM k) (agxSendS k) (agxS k) rfl (words_c8 agSendW k) (words_c8 agxW k) ⟨⟨rfl, Or.inl rfl⟩, trivial⟩
  (sendP (ydev c) (c8 agSendM k) (c8 agyM k) (agySendS k) (agyS k) rfl (words_c8 agSendW k) (words_c8 agyW k) ⟨⟨rfl, Or.inl rfl⟩, trivial⟩
  (copyP (c8 agSendM k) (outMe c k) (outS k) (words_c8 agSendW k) (words_outMe c k) ⟨Or.inl rfl, trivial⟩ rest))))))) Q) := by
  unfold S2 inc
  iintro ⟨#HE, ⟨Hs, Hx, Hy, T1, T2, T4, T5, A3, C3, Hm, Hi⟩, Ha, Hf, Ha', Hf', HG, HO⟩ Hk
  iapply (land_rule m K c (lPool (par k)) 2 (above2 c k.val 0)) $$ [Hf HO]
  · isplitr; · iexact HE
    isplitl [Hf]; · iexact Hf
    iexact HO
  iintro ⟨⟨Hv, Hp⟩, Hpi, HO⟩
  iapply (land_rule m K c (lRbuf (par k)) 2 (above2 c k.val 0)) $$ [Hf' HO]
  · isplitr; · iexact HE
    isplitl [Hf']; · iexact Hf'
    iexact HO
  iintro ⟨⟨Hv', Hp'⟩, Hpi', HO⟩
  iapply (last_rule m K c (.inl (3, k)) 0 rfl (fun r h => if_neg (by omega)) (credit_c8 _ k) 2 (above2 c k.val 0) le_rfl) $$ [C3 HO A3]
  · isplitr; · iexact HE
    isplitl [C3]; · iexact C3
    isplitl [HO]; · iexact HO
    iexact A3
  iintro ⟨Hr, Z3, HO⟩
  ihave Hr := (Entails.of_eq (show payK m c (kC 3 k) 0 false = has c (c8 rsRecvM k).view fullShare (sq (rsT m (ydev c) k)) from rfl)) $$ Hr
  iapply (load2_rule c) $$ Hv
  iintro Hv
  iapply (load8_rule c) $$ Hr
  iintro Hr
  iapply (load2_rule c) $$ Hv'
  iintro Hv'
  iapply (loadG_rule c) $$ HG
  iintro HG
  iapply (load8_room c) $$ Hs
  iintro %_ Hs
  iapply (store8_rule c) $$ Hs
  iintro Hs
  ihave Hs := (Entails.of_eq (show has c (c8 agSendM k).view fullShare (sq (e := .bf16) (k0_pay24 (vMe m c k) (rsT m (ydev c) k) (unsq (vR m c k)) (gam m c))) = fin_ m c fullShare k from rfl)) $$ Hs
  ihave Hs2 := (has_split c) $$ Hs
  icases Hs2 with ⟨Hsx, Hsr⟩
  ihave Hs3 := (has_split c) $$ Hsr
  icases Hs3 with ⟨Hsy, Hso⟩
  iapply (send_rule m K c (xdev c) (.inl (1, k)) (.inl (4, k)) 0 rfl rfl (credit_c8 _ k) (show fin_ m c qx k ⊢ payK m c (kC 1 k) 0 false from .rfl) (pay4 m c k)
      (owed c 8 (k.val + 1) 0 + tallyAt (cell (ydev c) (kC 5 k)) () N) (owed_snd c k)) $$ [Hsx Hx T1 T4 HO]
  · isplitr; · iexact HE
    isplitl [Hsx]; · iexact Hsx
    isplitl [Hx]; · iexact Hx
    isplitl [HO]; · iexact HO
    isplitl [T1]; · iexact T1
    isplitr; · iapply (env_reached m K c (kC 1 k)); iexact HE
    iexact T4
  iintro ⟨C1, HO⟩
  iapply (send_rule m K c (ydev c) (.inl (2, k)) (.inl (5, k)) 0 rfl rfl (credit_c8 _ k) (show fin_ m c qy k ⊢ payK m c (kC 2 k) 0 false from .rfl) (pay5 m c k)
      (owed c 8 (k.val + 1) 0) rfl) $$ [Hsy Hy T2 T5 HO]
  · isplitr; · iexact HE
    isplitl [Hsy]; · iexact Hsy
    isplitl [Hy]; · iexact Hy
    isplitl [HO]; · iexact HO
    isplitl [T2]; · iexact T2
    isplitr; · iapply (env_reached m K c (kC 2 k)); iexact HE
    iexact T5
  iintro ⟨C2, HO⟩
  iapply (copy_rule c) $$ [Hso Hm Hi]
  · isplitl [Hso]; · iexact Hso
    isplitl [Hm]; · iexact Hm
    iexact Hi
  iintro HF
  iapply Hk
  isplitl [Hp Hp' Hr C1 C2 HF Z3]
  · isplitl [Hp]; · iexact Hp
    isplitl [Hp']; · iexact Hp'
    isplitl [Hr]; · iapply (has_room c); iexact Hr
    isplitl [C1]; · iexact C1
    isplitl [C2]; · iexact C2
    isplitl [HF]; · iexact HF
    iexact Z3
  isplitl [Ha Hv Hpi]
  · iapply (slots_next c poolM lPool (partMe c) (wMe m c) k)
    isplitl [Ha]; · iexact Ha
    unfold slot
    isplitl [Hv]; · iapply (has_room c); iexact Hv
    iexact Hpi
  isplitl [Ha' Hv' Hpi']
  · iapply (slots_next c rbufM lRbuf (residMe c) (wR m c) k)
    isplitl [Ha']; · iexact Ha'
    unfold slot
    isplitl [Hv']; · iapply (has_room c); iexact Hv'
    iexact Hpi'
  isplitl [HG]; · iexact HG
  iexact HO

/-- A round of the second loop. -/
theorem round2_rule (k : Fin 8) (rest : PG F) (Q : PUnit → sProp 𝕄) :
    iprop(env m K ∗ (nxt (hasMe m c) k ∗ nxt (hasR m c) k ∗ (room c (c8 agSendM k).view ∗ room (xdev c) (c8 agxM k).view ∗ room (ydev c) (c8 agyM k).view
        ∗ tok c (kC 1 k) 0 ∗ tok c (kC 2 k) 0 ∗ tok (xdev c) (kC 4 k) 0 ∗ tok (ydev c) (kC 5 k) 0
        ∗ at_ c (kC 3 k) 0 ∗ cr c (kC 3 k) ∗ room c (outMe c k).view ∗ idle c (lsem (lOut k)))) ∗ S2 m c k.val)
      ⊢ iprop((((hasMe m c k ∗ hasR m c k ∗ room c (c8 rsRecvM k).view ∗ cr c (kC 1 k) ∗ cr c (kC 2 k) ∗ flyMe m c k ∗ idle c (dsem (.inl (3, k))))
          ∗ S2 m c (k.val + 1)) -∗ WP c rest Q) -∗ WP c (round2 c k rest) Q) := by
  iintro ⟨#HE, ⟨Hn, Hn', HA⟩, HS, HS', HG, HO⟩ Hk
  ihave HS2 := (Entails.of_eq (slots_at c poolM lPool (partMe c) (wMe m c) k)) $$ HS
  icases HS2 with ⟨Hf, Ho⟩
  ihave HS3 := (Entails.of_eq (slots_at c rbufM lRbuf (residMe c) (wR m c) k)) $$ HS'
  icases HS3 with ⟨Hf', Ho'⟩
  unfold round2 nextP fetchMe
  split
  · next h =>
    iapply (fetch_rule c poolM lPool (partMe c) (wMe m c) k h) $$ [Hn Ho]
    · isplitl [Hn]; · iexact Hn
      iexact Ho
    iintro Ha
    iapply (fetch_rule c rbufM lRbuf (residMe c) (wR m c) k h) $$ [Hn' Ho']
    · isplitl [Hn']; · iexact Hn'
      iexact Ho'
    iintro Ha'
    iapply (round2_main m K c k rest Q) $$ [HA Ha Hf Ha' Hf' HG HO]
    · isplitr; · iexact HE
      isplitl [HA]; · iexact HA
      isplitl [Ha]; · iexact Ha
      isplitl [Hf]; · iexact Hf
      isplitl [Ha']; · iexact Ha'
      isplitl [Hf']; · iexact Hf'
      isplitl [HG]; · iexact HG
      iexact HO
    iexact Hk
  · next h =>
    ihave Ha := (fetch_none c poolM lPool (partMe c) (wMe m c) k h) $$ [Hn Ho]
    · isplitl [Hn]; · iexact Hn
      iexact Ho
    ihave Ha' := (fetch_none c rbufM lRbuf (residMe c) (wR m c) k h) $$ [Hn' Ho']
    · isplitl [Hn']; · iexact Hn'
      iexact Ho'
    iapply (round2_main m K c k rest Q) $$ [HA Ha Hf Ha' Hf' HG HO]
    · isplitr; · iexact HE
      isplitl [HA]; · iexact HA
      isplitl [Ha]; · iexact Ha
      isplitl [Hf]; · iexact Hf
      isplitl [Ha']; · iexact Ha'
      isplitl [Hf']; · iexact Hf'
      isplitl [HG]; · iexact HG
      iexact HO
    iexact Hk

/-! ## The third loop -/

/-- A round of the third loop. -/
theorem round3_rule (k : Fin 8) (rest : PG F) (Q : PUnit → sProp 𝕄) :
    iprop(env m K ∗ (flyMe m c k ∗ at_ c (kC 4 k) 0 ∗ cr c (kC 4 k) ∗ room c (outX c k).view) ∗ due c (owed c 8 8 0))
      ⊢ iprop((((resMe m c k ∗ fin_ m c qo k ∗ flyX m c k ∗ idle c (dsem (.inl (4, k)))) ∗ due c (owed c 8 8 0)) -∗ WP c rest Q)
          -∗ WP c (round3 c k rest) Q) := by
  iintro ⟨#HE, ⟨HF, A4, C4, Hr⟩, HO⟩ Hk
  unfold round3
  iapply (last_rule m K c (.inl (4, k)) 0 rfl (fun r h => if_neg (by omega)) (credit_c8 _ k) 3 (above3 c 0) le_rfl) $$ [C4 HO A4]
  · isplitr; · iexact HE
    isplitl [C4]; · iexact C4
    isplitl [HO]; · iexact HO
    iexact A4
  iintro ⟨Hx, Z4, HO⟩
  ihave Hx := (Entails.of_eq (show payK m c (kC 4 k) 0 false = landX m c fullShare k from rfl)) $$ Hx
  iapply (land_rule m K c (lOut k) 3 (above3 c 0)) $$ [HF HO]
  · isplitr; · iexact HE
    isplitl [HF]; · iexact HF
    iexact HO
  iintro ⟨⟨Hv, Hp⟩, Hi, HO⟩
  iapply (copy_rule c) $$ [Hx Hr Hi]
  · isplitl [Hx]; · iexact Hx
    isplitl [Hr]; · iexact Hr
    iexact Hi
  iintro HF
  iapply Hk
  isplitr [HO]
  · isplitl [Hv]; · iexact Hv
    isplitl [Hp]; · iexact Hp
    isplitl [HF]; · iexact HF
    iexact Z4
  iexact HO

/-! ## The fourth loop -/

/-- Forwarding semaphore `s` before round `n`: its two chunks are `s` and `s + 4`. -/
def fwdSt (s : Fin 4) (n : ℕ) : sProp 𝕄 :=
  if n ≤ s.val then iprop(tok c (kF s) 0 ∗ tok c (kF s) 1 ∗ at_ c (kF s) 0)
  else if n ≤ s.val + 4 then iprop(tok c (kF s) 1 ∗ at_ c (kF s) 0 ∗ cr c (kF s))
  else iprop(landY m c fullShare.left (fwdK s 0) ∗ at_ c (kF s) 1 ∗ cr c (kF s))

abbrev S4 (n : ℕ) : sProp 𝕄 := iprop(bigSep Finset.univ (fun s => fwdSt m c s n) ∗ due c (owed c 8 8 n))

/-- The forwarding of chunk `k`, after the wait for the forwarding its semaphore did before. -/
theorem forward_rule (k : Fin 8) {rest : PG F} {Q : PUnit → sProp 𝕄} :
    iprop(env m K ∗ landY m c fullShare.left k ∗ room (xdev c) (c8 agdM k).view ∗ tok (xdev c) (kC 6 k) 0 ∗ S4 m c k.val)
      ⊢ iprop((S4 m c (k.val + 1) -∗ WP c rest Q) -∗ WP c (fourBack k fwdWait
          (sendP (xdev c) (c8 agyM k) (c8 agdM k) (fwdSendS (quad k)) (agdS k) rfl (words_c8 agyW k) (words_c8 agdW k) ⟨⟨rfl, Or.inl rfl⟩, trivial⟩ rest)) Q) := by
  unfold S4
  have hS : ∀ n, bigSep Finset.univ (fun s => fwdSt m c s n) = iprop(fwdSt m c (quad k) n ∗ bigSep (Finset.univ.erase (quad k)) fun s => fwdSt m c s n) :=
    fun n => BI.bigSep_erase (Finset.mem_univ (quad k))
  have hE : (bigSep (Finset.univ.erase (quad k)) fun s => fwdSt m c s k.val) = bigSep (Finset.univ.erase (quad k)) fun s => fwdSt m c s (k.val + 1) :=
    BI.bigSep_congr fun s hs => by
      have hne : s.val ≠ k.val % 4 := fun h => (Finset.mem_erase.mp hs).1 (Fin.ext h)
      unfold fwdSt
      rw [if_congr (show k.val ≤ s.val ↔ k.val + 1 ≤ s.val by omega) rfl rfl, if_congr (show k.val ≤ s.val + 4 ↔ k.val + 1 ≤ s.val + 4 by omega) rfl rfl]
  rw [hS k.val, hS (k.val + 1), hE]
  unfold fourBack
  split
  · next h4 =>
    have hq : (quad k).val = k.val - 4 := by show k.val % 4 = k.val - 4; omega
    have e1 : fwdSt m c (quad k) k.val = iprop(tok c (kF (quad k)) 1 ∗ at_ c (kF (quad k)) 0 ∗ cr c (kF (quad k))) := by
      unfold fwdSt; rw [if_neg (by omega), if_pos (by omega)]
    have e2 : fwdSt m c (quad k) (k.val + 1) = iprop(landY m c fullShare.left (fwdK (quad k) 0) ∗ at_ c (kF (quad k)) 1 ∗ cr c (kF (quad k))) := by
      unfold fwdSt; rw [if_neg (by omega), if_neg (by omega)]
    have hK : fwdK (quad k) 1 = k := Fin.ext (by show (quad k).val + 4 = k.val; omega)
    have hq' : quad ⟨k.val - 4, lt_of_le_of_lt (Nat.sub_le _ _) k.isLt⟩ = quad k := Fin.ext (by show (k.val - 4) % 4 = k.val % 4; omega)
    rw [e1, e2]
    iintro ⟨#HE, Hy, Hd, T6, ⟨⟨Ht, Ha, Hc⟩, HR⟩, HO⟩ Hk
    unfold fwdWait
    rw [hq']
    iapply (round_rule m K c (.inr (quad k)) 0 rfl (credit_c8 _ _) 3 (above3 c k.val) (Nat.zero_le _)) $$ [Hc HO Ha]
    · isplitr; · iexact HE
      isplitl [Hc]; · iexact Hc
      isplitl [HO]; · iexact HO
      iexact Ha
    iintro ⟨Hb, Ha, Hre, HO⟩
    ihave Hb := (Entails.of_eq (show payK m c (kF (quad k)) 0 false = landY m c fullShare.left (fwdK (quad k) 0) from rfl)) $$ Hb
    iapply (send_rule m K c (xdev c) (.inr (quad k)) (.inl (6, k)) 1 rfl rfl (credit_c8 _ k)
      (show landY m c fullShare.left k ⊢ payK m c (kF (quad k)) 1 false from by
        rw [show payK m c (kF (quad k)) 1 false = landY m c fullShare.left (fwdK (quad k) 1) from rfl, hK]) (pay6 m c k)
      (owed c 8 8 (k.val + 1)) (owed_fwd c k)) $$ [Hy Hd T6 Ht Hre HO]
    · isplitr; · iexact HE
      isplitl [Hy]; · iexact Hy
      isplitl [Hd]; · iexact Hd
      isplitl [HO]; · iexact HO
      isplitl [Ht]; · iexact Ht
      isplitl [Hre]; · iexact Hre
      iexact T6
    iintro ⟨Hc, HO⟩
    iapply Hk
    isplitr [HO]
    · isplitr [HR]
      · isplitl [Hb]; · iexact Hb
        isplitl [Ha]; · iexact Ha
        iexact Hc
      iexact HR
    iexact HO
  · next h4 =>
    have hq : (quad k).val = k.val := by show k.val % 4 = k.val; omega
    have e1 : fwdSt m c (quad k) k.val = iprop(tok c (kF (quad k)) 0 ∗ tok c (kF (quad k)) 1 ∗ at_ c (kF (quad k)) 0) := by
      unfold fwdSt; rw [if_pos (by omega)]
    have e2 : fwdSt m c (quad k) (k.val + 1) = iprop(tok c (kF (quad k)) 1 ∗ at_ c (kF (quad k)) 0 ∗ cr c (kF (quad k))) := by
      unfold fwdSt; rw [if_neg (by omega), if_pos (by omega)]
    have hK : fwdK (quad k) 0 = k := Fin.ext (by show (quad k).val = k.val; omega)
    rw [e1, e2]
    iintro ⟨#HE, Hy, Hd, T6, ⟨⟨Ht, Ht', Ha⟩, HR⟩, HO⟩ Hk
    iapply (send_rule m K c (xdev c) (.inr (quad k)) (.inl (6, k)) 0 rfl rfl (credit_c8 _ k)
      (show landY m c fullShare.left k ⊢ payK m c (kF (quad k)) 0 false from by
        rw [show payK m c (kF (quad k)) 0 false = landY m c fullShare.left (fwdK (quad k) 0) from rfl, hK]) (pay6 m c k)
      (owed c 8 8 (k.val + 1)) (owed_fwd c k)) $$ [Hy Hd T6 Ht HO]
    · isplitr; · iexact HE
      isplitl [Hy]; · iexact Hy
      isplitl [Hd]; · iexact Hd
      isplitl [HO]; · iexact HO
      isplitl [Ht]; · iexact Ht
      isplitr; · iapply (env_reached m K c (kF (quad k))); iexact HE
      iexact T6
    iintro ⟨Hc, HO⟩
    iapply Hk
    isplitr [HO]
    · isplitr [HR]
      · isplitl [Ht']; · iexact Ht'
        isplitl [Ha]; · iexact Ha
        iexact Hc
      iexact HR
    iexact HO

/-- A round of the fourth loop. -/
theorem round4_rule (k : Fin 8) (rest : PG F) (Q : PUnit → sProp 𝕄) :
    iprop(env m K ∗ (flyX m c k ∗ at_ c (kC 5 k) 0 ∗ cr c (kC 5 k) ∗ room c (outY c k).view ∗ room (xdev c) (c8 agdM k).view ∗ tok (xdev c) (kC 6 k) 0)
        ∗ S4 m c k.val)
      ⊢ iprop((((resX m c k ∗ landX m c fullShare k ∗ flyY m c k ∗ idle c (dsem (.inl (5, k)))) ∗ S4 m c (k.val + 1)) -∗ WP c rest Q)
          -∗ WP c (round4 c k rest) Q) := by
  iintro ⟨#HE, ⟨HF, A5, C5, Hr, Hd, T6⟩, HS, HO⟩ Hk
  unfold round4
  iapply (last_rule m K c (.inl (5, k)) 0 rfl (fun r h => if_neg (by omega)) (credit_c8 _ k) 3 (above3 c k.val) le_rfl) $$ [C5 HO A5]
  · isplitr; · iexact HE
    isplitl [C5]; · iexact C5
    isplitl [HO]; · iexact HO
    iexact A5
  iintro ⟨Hy, Z5, HO⟩
  ihave Hy := (Entails.of_eq (show payK m c (kC 5 k) 0 false = landY m c fullShare k from rfl)) $$ Hy
  ihave Hy2 := (has_split c) $$ Hy
  icases Hy2 with ⟨Hyl, Hyr⟩
  iapply (forward_rule m K c k) $$ [Hyl Hd T6 HS HO]
  · isplitr; · iexact HE
    isplitl [Hyl]; · iexact Hyl
    isplitl [Hd]; · iexact Hd
    isplitl [T6]; · iexact T6
    isplitl [HS]; · iexact HS
    iexact HO
  iintro ⟨HS, HO⟩
  iapply (land_rule m K c (lOut k) 3 (above3 c (k.val + 1))) $$ [HF HO]
  · isplitr; · iexact HE
    isplitl [HF]; · iexact HF
    iexact HO
  iintro ⟨⟨Hv, Hp⟩, Hi, HO⟩
  iapply (copy_rule c) $$ [Hyr Hr Hi]
  · isplitl [Hyr]; · iexact Hyr
    isplitl [Hr]; · iexact Hr
    iexact Hi
  iintro HF
  iapply Hk
  isplitr [HO HS]
  · isplitl [Hv]; · iexact Hv
    isplitl [Hp]; · iexact Hp
    isplitl [HF]; · iexact HF
    iexact Z5
  isplitl [HS]; · iexact HS
  iexact HO

/-! ## The fifth loop -/

theorem above9 (n : ℕ) : Above n (owed c 8 8 8) := by rw [owed_end]; exact Above.zero n

/-- A round of the fifth loop. -/
theorem round5_rule (k : Fin 8) (rest : PG F) (Q : PUnit → sProp 𝕄) :
    iprop(env m K ∗ (flyY m c k ∗ at_ c (kC 6 k) 0 ∗ cr c (kC 6 k) ∗ room c (outD c k).view) ∗ due c (owed c 8 8 8))
      ⊢ iprop((((resY m c k ∗ landY m c fullShare.right k ∗ flyD m c k ∗ idle c (dsem (.inl (6, k)))) ∗ due c (owed c 8 8 8)) -∗ WP c rest Q)
          -∗ WP c (round5 c k rest) Q) := by
  iintro ⟨#HE, ⟨HF, A6, C6, Hr⟩, HO⟩ Hk
  unfold round5
  iapply (last_rule m K c (.inl (6, k)) 0 rfl (fun r h => if_neg (by omega)) (credit_c8 _ k) 4 (above9 c 4) le_rfl) $$ [C6 HO A6]
  · isplitr; · iexact HE
    isplitl [C6]; · iexact C6
    isplitl [HO]; · iexact HO
    iexact A6
  iintro ⟨Hx, Z6, HO⟩
  ihave Hx := (Entails.of_eq (show payK m c (kC 6 k) 0 false = landD m c fullShare k from rfl)) $$ Hx
  iapply (land_rule m K c (lOut k) 4 (above9 c 4)) $$ [HF HO]
  · isplitr; · iexact HE
    isplitl [HF]; · iexact HF
    iexact HO
  iintro ⟨⟨Hv, Hp⟩, Hi, HO⟩
  iapply (copy_rule c) $$ [Hx Hr Hi]
  · isplitl [Hx]; · iexact Hx
    isplitl [Hr]; · iexact Hr
    iexact Hi
  iintro HF
  iapply Hk
  isplitr [HO]
  · isplitl [Hv]; · iexact Hv
    isplitl [Hp]; · iexact Hp
    isplitl [HF]; · iexact HF
    iexact Z6
  iexact HO

/-! ## The final waits -/

/-- The wait for a send of the first exchange. -/
theorem drain1_rule (k : Fin 8) (rest : PG F) (Q : PUnit → sProp 𝕄) :
    iprop(env m K ∗ (at_ c (kC 0 k) 0 ∗ cr c (kC 0 k)) ∗ due c (owed c 8 8 8))
      ⊢ iprop((((room c (c8 rsSendM k).view ∗ idle c (dsem (.inl (0, k)))) ∗ due c (owed c 8 8 8)) -∗ WP c rest Q) -∗ WP c (drain1 k rest) Q) := by
  iintro ⟨#HE, ⟨A, C⟩, HO⟩ Hk
  unfold drain1
  iapply (last_rule m K c (.inl (0, k)) 0 rfl (fun r h => if_neg (by omega)) (credit_c8 _ k) 4 (above9 c 4) (Nat.zero_le _)) $$ [C HO A]
  · isplitr; · iexact HE
    isplitl [C]; · iexact C
    isplitl [HO]; · iexact HO
    iexact A
  iintro ⟨H, Z, HO⟩
  iapply Hk
  isplitr [HO]
  · isplitl [H]
    · iapply (Entails.of_eq (show payK m c (kC 0 k) 0 false = room c (c8 rsSendM k).view from rfl)); iexact H
    iexact Z
  iexact HO

/-- The waits for the two sends of the second exchange. -/
theorem drain2_rule (k : Fin 8) (rest : PG F) (Q : PUnit → sProp 𝕄) :
    iprop(env m K ∗ (at_ c (kC 1 k) 0 ∗ cr c (kC 1 k) ∗ at_ c (kC 2 k) 0 ∗ cr c (kC 2 k) ∗ fin_ m c qo k) ∗ due c (owed c 8 8 8))
      ⊢ iprop((((fin_ m c fullShare k ∗ idle c (dsem (.inl (1, k))) ∗ idle c (dsem (.inl (2, k)))) ∗ due c (owed c 8 8 8)) -∗ WP c rest Q)
          -∗ WP c (drain2 k rest) Q) := by
  iintro ⟨#HE, ⟨A, C, A', C', Ho⟩, HO⟩ Hk
  unfold drain2
  iapply (last_rule m K c (.inl (1, k)) 0 rfl (fun r h => if_neg (by omega)) (credit_c8 _ k) 4 (above9 c 4) (Nat.zero_le _)) $$ [C HO A]
  · isplitr; · iexact HE
    isplitl [C]; · iexact C
    isplitl [HO]; · iexact HO
    iexact A
  iintro ⟨H1, Z1, HO⟩
  iapply (last_rule m K c (.inl (2, k)) 0 rfl (fun r h => if_neg (by omega)) (credit_c8 _ k) 4 (above9 c 4) (Nat.zero_le _)) $$ [C' HO A']
  · isplitr; · iexact HE
    isplitl [C']; · iexact C'
    isplitl [HO]; · iexact HO
    iexact A'
  iintro ⟨H2, Z2, HO⟩
  ihave H1 := (Entails.of_eq (show payK m c (kC 1 k) 0 false = fin_ m c qx k from rfl)) $$ H1
  ihave H2 := (Entails.of_eq (show payK m c (kC 2 k) 0 false = fin_ m c qy k from rfl)) $$ H2
  iapply Hk
  isplitr [HO]
  · isplitr [Z1 Z2]
    · iapply (has_join c)
      isplitl [H1]; · iexact H1
      iapply (has_join c)
      isplitl [H2]; · iexact H2
      iexact Ho
    isplitl [Z1]; · iexact Z1
    iexact Z2
  iexact HO

/-- The wait for a last copy out. -/
theorem drain4_rule (k : Fin 8) (rest : PG F) (Q : PUnit → sProp 𝕄) :
    iprop(env m K ∗ flyD m c k ∗ due c (owed c 8 8 8))
      ⊢ iprop((((resD m c k ∗ landD m c fullShare k ∗ idle c (lsem (lOut k))) ∗ due c (owed c 8 8 8)) -∗ WP c rest Q) -∗ WP c (drain4 c k rest) Q) := by
  iintro ⟨#HE, HF, HO⟩ Hk
  unfold drain4
  iapply (land_rule m K c (lOut k) 4 (above9 c 4)) $$ [HF HO]
  · isplitr; · iexact HE
    isplitl [HF]; · iexact HF
    iexact HO
  iintro ⟨⟨Hv, Hp⟩, Hi, HO⟩
  iapply Hk
  isplitr [HO]
  · isplitl [Hv]; · iexact Hv
    isplitl [Hp]; · iexact Hp
    iexact Hi
  iexact HO

/-- The wait for a second forwarding of a semaphore: both halves it lent come back. -/
theorem fwdWait_rule (s : Fin 4) {rest : PG F} {Q : PUnit → sProp 𝕄} :
    iprop(env m K ∗ fwdSt m c s 8 ∗ due c (owed c 8 8 8))
      ⊢ iprop(((landY m c fullShare.left (fwdK s 0) ∗ landY m c fullShare.left (fwdK s 1) ∗ idle c (dsem (.inr s)) ∗ due c (owed c 8 8 8)) -∗ WP c rest Q)
          -∗ WP c (fwdWait (fwdK s 1) rest) Q) := by
  have hq : quad (fwdK s 1) = s := Fin.ext (by show (s.val + 4) % 4 = s.val; omega)
  unfold fwdWait fwdSt
  rw [hq, if_neg (by omega), if_neg (by omega)]
  iintro ⟨#HE, ⟨Hb, A, C⟩, HO⟩ Hk
  iapply (last_rule m K c (.inr s) 1 rfl (fun r h => if_neg (by omega)) (credit_c8 _ _) 4 (above9 c 4) (Nat.zero_le _)) $$ [C HO A]
  · isplitr; · iexact HE
    isplitl [C]; · iexact C
    isplitl [HO]; · iexact HO
    iexact A
  iintro ⟨H, Z, HO⟩
  iapply Hk
  isplitl [Hb]; · iexact Hb
  isplitl [H]
  · iapply (Entails.of_eq (show payK m c (kF s) 1 false = landY m c fullShare.left (fwdK s 1) from rfl)); iexact H
  isplitl [Z]; · iexact Z
  iexact HO

end Cert.KernelIdeal.Pf

end
-- ==== Proof.Whole.lean ====
/-
# The body, whole

From what the launch deals a device to what the body leaves it, through the five loops and the final waits.
-/
module

public import proofs.«01_k».proof.Proof.Phases

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ) (c : Dev nD)

/-- What the body starts from, apart from the shared records: the handshake's share of it, -/
def startBar : sProp 𝕄 :=
  iprop(due c (owed c 0 0 0 + tallyAt (cell (ydev c) kB) () 1 + tallyAt (cell (xdev c) kB) () 1)
    ∗ dutyTok ER (cell (xdev c) kB) 0 true ∗ dutyTok ER (cell (ydev c) kB) 0 false ∗ cred (tallyAt (cell c kB) () 2) ∗ at_ c kB 0
    ∗ barX (xdev c) ∗ barY (ydev c))
/-- the double buffers, -/
def freeSlots : sProp 𝕄 :=
  iprop(slot c poolM lPool 0 ∗ slot c poolM lPool 1 ∗ slot c rbufM lRbuf 0 ∗ slot c rbufM lRbuf 1)
/-- the inputs' chunks, the result's, the send buffers', -/
def startMem : sProp 𝕄 :=
  iprop((bigSep Finset.univ (hasY m c) ∗ bigSep Finset.univ (hasMe m c) ∗ bigSep Finset.univ (hasR m c))
    ∗ (bigSep Finset.univ (fun k => room c (outMe c k).view) ∗ bigSep Finset.univ (fun k => room c (outX c k).view) ∗ bigSep Finset.univ (fun k => room c (outY c k).view) ∗ bigSep Finset.univ (fun k => room c (outD c k).view))
    ∗ bigSep Finset.univ (fun k => room c (c8 rsSendM k).view) ∗ bigSep Finset.univ (fun k => room c (c8 agSendM k).view))
/-- the counters of the copies to the result, the tokens of the credits the device is to give, -/
def startToks : sProp 𝕄 :=
  iprop(bigSep Finset.univ (fun k => idle c (lsem (lOut k)))
    ∗ (bigSep Finset.univ (fun k => tok c (kC 0 k) 0) ∗ bigSep Finset.univ (fun k => tok c (kC 1 k) 0) ∗ bigSep Finset.univ (fun k => tok c (kC 2 k) 0)
      ∗ bigSep Finset.univ (fun k => tok (ydev c) (kC 3 k) 0) ∗ bigSep Finset.univ (fun k => tok (xdev c) (kC 4 k) 0) ∗ bigSep Finset.univ (fun k => tok (ydev c) (kC 5 k) 0) ∗ bigSep Finset.univ (fun k => tok (xdev c) (kC 6 k) 0)))
/-- its positions on its own cells, the credits it will receive, and the forwarding cells. -/
def startPos : sProp 𝕄 :=
  iprop((bigSep Finset.univ (fun k => at_ c (kC 0 k) 0) ∗ bigSep Finset.univ (fun k => at_ c (kC 1 k) 0) ∗ bigSep Finset.univ (fun k => at_ c (kC 2 k) 0) ∗ bigSep Finset.univ (fun k => at_ c (kC 3 k) 0)
      ∗ bigSep Finset.univ (fun k => at_ c (kC 4 k) 0) ∗ bigSep Finset.univ (fun k => at_ c (kC 5 k) 0) ∗ bigSep Finset.univ (fun k => at_ c (kC 6 k) 0))
    ∗ (bigSep Finset.univ (fun k => cr c (kC 3 k)) ∗ bigSep Finset.univ (fun k => cr c (kC 4 k)) ∗ bigSep Finset.univ (fun k => cr c (kC 5 k)) ∗ bigSep Finset.univ (fun k => cr c (kC 6 k)))
    ∗ bigSep Finset.univ fun s : Fin 4 => iprop(tok c (kF s) 0 ∗ tok c (kF s) 1 ∗ at_ c (kF s) 0))

/-- What the body leaves: the inputs, the result's four quarters, -/
def endMem : sProp 𝕄 :=
  iprop((bigSep Finset.univ (hasY m c) ∗ bigSep Finset.univ (hasMe m c) ∗ bigSep Finset.univ (hasR m c)) ∗ bigSep Finset.univ (resMe m c) ∗ bigSep Finset.univ (resX m c) ∗ bigSep Finset.univ (resY m c) ∗ bigSep Finset.univ (resD m c))
/-- the scratch buffers, -/
def endScr : sProp 𝕄 :=
  iprop(bigSep Finset.univ (fun k => room c (c8 rsSendM k).view) ∗ bigSep Finset.univ (fun k => room c (c8 agSendM k).view) ∗ bigSep Finset.univ (fun k => room c (c8 rsRecvM k).view)
    ∗ bigSep Finset.univ (fun k => room c (c8 agxM k).view) ∗ bigSep Finset.univ (fun k => room c (c8 agyM k).view) ∗ bigSep Finset.univ (fun k => room c (c8 agdM k).view))
/-- and the counters at zero. -/
def endSem : sProp 𝕄 :=
  iprop(semVal (cell c kB) 0 ∗ bigSep Finset.univ (fun k => idle c (lsem (lOut k)))
    ∗ (bigSep Finset.univ (fun k => idle c (dsem (.inl (0, k)))) ∗ bigSep Finset.univ (fun k => idle c (dsem (.inl (1, k)))) ∗ bigSep Finset.univ (fun k => idle c (dsem (.inl (2, k))))
      ∗ bigSep Finset.univ (fun k => idle c (dsem (.inl (3, k)))) ∗ bigSep Finset.univ (fun k => idle c (dsem (.inl (4, k)))) ∗ bigSep Finset.univ (fun k => idle c (dsem (.inl (5, k))))
      ∗ bigSep Finset.univ (fun k => idle c (dsem (.inl (6, k)))))
    ∗ bigSep Finset.univ fun s : Fin 4 => idle c (dsem (.inr s)))

theorem all_mono {Φ Ψ : Fin 8 → sProp 𝕄} (h : ∀ k, Φ k ⊢ Ψ k) : bigSep Finset.univ Φ ⊢ bigSep Finset.univ Ψ := BI.bigSep_mono fun k _ => h k

theorem fwdWait_rule' (s : Fin 4) (i j : Fin 8) (hi : fwdK s 0 = i) (hj : fwdK s 1 = j) {rest : PG F} {Q : PUnit → sProp 𝕄} :
    iprop(env m K ∗ fwdSt m c s 8 ∗ due c (owed c 8 8 8))
      ⊢ iprop(((landY m c fullShare.left i ∗ landY m c fullShare.left j ∗ idle c (dsem (.inr s)) ∗ due c (owed c 8 8 8)) -∗ WP c rest Q)
          -∗ WP c (fwdWait j rest) Q) := by
  subst hi hj; exact fwdWait_rule m K c s

/-- The body on device `c`. -/
theorem bodyOn_rule {Q : PUnit → sProp 𝕄} :
    iprop(env m K ∗ startBar c ∗ scale m c ∗ freeSlots c ∗ startMem m c ∗ startToks c ∗ startPos c)
      ⊢ iprop(((due c 0 ∗ scale m c ∗ freeSlots c ∗ endMem m c ∗ endScr c ∗ endSem c) -∗ Q ⟨⟩) -∗ WP c (bodyOn c) Q) := by
  unfold startBar freeSlots startMem startToks startPos endMem endScr endSem bodyOn barX barY
  rw [nxt_shift (hasY m c), nxt_shift (hasMe m c), nxt_shift (hasR m c)]
  have p1 := fun k Q => loop8_rule m K c (S := S1 m c) (round1_rule m K c) (k := k) (Q := Q)
  have p2 := fun k Q => loop8_rule m K c (S := S2 m c) (round2_rule m K c) (k := k) (Q := Q)
  have p3 := fun k Q => loop8_rule m K c (S := fun _ => due c (owed c 8 8 0)) (round3_rule m K c) (k := k) (Q := Q)
  have p4 := fun k Q => loop8_rule m K c (S := S4 m c) (round4_rule m K c) (k := k) (Q := Q)
  have p5 := fun k Q => loop8_rule m K c (S := fun _ => due c (owed c 8 8 8)) (round5_rule m K c) (k := k) (Q := Q)
  have d1 := fun k Q => loop8_rule m K c (S := fun _ => due c (owed c 8 8 8)) (drain1_rule m K c) (k := k) (Q := Q)
  have d2 := fun k Q => loop8_rule m K c (S := fun _ => due c (owed c 8 8 8)) (drain2_rule m K c) (k := k) (Q := Q)
  have d4 := fun k Q => loop8_rule m K c (S := fun _ => due c (owed c 8 8 8)) (drain4_rule m K c) (k := k) (Q := Q)
  simp only [bigSep_sep'] at p1 p2 p3 p4 p5 d1 d2 d4 ⊢
  iintro ⟨#HE, ⟨HO, BTx, BTy, BC, BA, BX, BY⟩, HG, ⟨P0, P1, R0, R1⟩, ⟨⟨⟨Y0, Yn⟩, ⟨M0, Mn⟩, ⟨X0, Xn⟩⟩, ⟨OM, OX, OY, OD⟩, RS, AG⟩, ⟨OI, T0, T1, T2, T3, T4, T5, T6⟩, ⟨A0, A1, A2, A3, A4, A5, A6⟩, ⟨C3, C4, C5, C6⟩, F0, F1, FA⟩ Hk
  iapply (meet_rule m K c (owed c 0 0 0) (above1 c 0 0 0)) $$ [HO BTx BTy BC BA BX BY]
  · isplitr; · iexact HE
    isplitl [HO]; · iexact HO
    isplitl [BTx]; · iexact BTx
    isplitl [BTy]; · iexact BTy
    unfold barX barY
    simp only [bigSep_sep']
    isplitl [BX]; · iexact BX
    isplitl [BY]; · iexact BY
    isplitl [BC]; · iexact BC
    iexact BA
  unfold barX barY
  simp only [bigSep_sep']
  iintro ⟨⟨NX, ND⟩, ⟨NR, NY⟩, ZB, HO⟩
  unfold fetchY
  iapply (fetch_first c poolM lPool (partY c) (wY m c)) $$ [Y0 P0 P1]
  · isplitl [Y0]; · iexact Y0
    isplitl [P0]; · iexact P0
    iexact P1
  iintro HP
  iapply (p1 _ Q) $$ [Yn RS NR T0 T3 HP HO]
  · isplitr; · iexact HE
    isplitr [HP HO]
    · isplitl [Yn]; · iexact Yn
      isplitl [RS]; · iexact RS
      isplitl [NR]; · iexact NR
      isplitl [T0]; · iexact T0
      iexact T3
    isplitl [HP]; · iexact HP
    iexact HO
  iintro ⟨⟨HY, C0⟩, HP, HO⟩
  ihave HP := (Entails.of_eq (show slotsY m c 8 = iprop(slot c poolM lPool 0 ∗ slot c poolM lPool 1) from rfl)) $$ HP
  icases HP with ⟨P0, P1⟩
  unfold fetchMe
  iapply (fetch_first c poolM lPool (partMe c) (wMe m c)) $$ [M0 P0 P1]
  · isplitl [M0]; · iexact M0
    isplitl [P0]; · iexact P0
    iexact P1
  iintro HP
  iapply (fetch_first c rbufM lRbuf (residMe c) (wR m c)) $$ [X0 R0 R1]
  · isplitl [X0]; · iexact X0
    isplitl [R0]; · iexact R0
    iexact R1
  iintro HR
  iapply (p2 _ Q) $$ [Mn Xn AG NX NY T1 T2 T4 T5 A3 C3 OM OI HP HR HG HO]
  · isplitr; · iexact HE
    isplitr [HP HR HG HO]
    · isplitl [Mn]; · iexact Mn
      isplitl [Xn]; · iexact Xn
      isplitl [AG]; · iexact AG
      isplitl [NX]; · iexact NX
      isplitl [NY]; · iexact NY
      isplitl [T1]; · iexact T1
      isplitl [T2]; · iexact T2
      isplitl [T4]; · iexact T4
      isplitl [T5]; · iexact T5
      isplitl [A3]; · iexact A3
      isplitl [C3]; · iexact C3
      isplitl [OM]; · iexact OM
      iexact OI
    isplitl [HP]; · iexact HP
    isplitl [HR]; · iexact HR
    isplitl [HG]; · iexact HG
    iexact HO
  iintro ⟨⟨HM, HX, RR, C1, C2, FM, Z3⟩, HP, HR, HG, HO⟩
  ihave HP := (Entails.of_eq (show slotsMe m c 8 = iprop(slot c poolM lPool 0 ∗ slot c poolM lPool 1) from rfl)) $$ HP
  ihave HR := (Entails.of_eq (show slotsR m c 8 = iprop(slot c rbufM lRbuf 0 ∗ slot c rbufM lRbuf 1) from rfl)) $$ HR
  iapply (p3 _ Q) $$ [FM A4 C4 OX HO]
  · isplitr; · iexact HE
    isplitr [HO]
    · isplitl [FM]; · iexact FM
      isplitl [A4]; · iexact A4
      isplitl [C4]; · iexact C4
      iexact OX
    iexact HO
  iintro ⟨⟨QM, GO, FX, Z4⟩, HO⟩
  iapply (p4 _ Q) $$ [FX A5 C5 OY ND T6 F0 F1 FA HO]
  · isplitr; · iexact HE
    isplitr [F0 F1 FA HO]
    · isplitl [FX]; · iexact FX
      isplitl [A5]; · iexact A5
      isplitl [C5]; · iexact C5
      isplitl [OY]; · iexact OY
      isplitl [ND]; · iexact ND
      iexact T6
    isplitr [HO]
    · rw [show (bigSep Finset.univ fun s => fwdSt m c s 0) = (bigSep Finset.univ fun s : Fin 4 => iprop(tok c (kF s) 0 ∗ tok c (kF s) 1 ∗ at_ c (kF s) 0) : sProp 𝕄) from
        BI.bigSep_congr fun s _ => if_pos (Nat.zero_le _)]
      simp only [bigSep_sep']
      isplitl [F0]; · iexact F0
      isplitl [F1]; · iexact F1
      iexact FA
    iexact HO
  iintro ⟨⟨QX, LX, FY, Z5⟩, FS, HO⟩
  iapply (p5 _ Q) $$ [FY A6 C6 OD HO]
  · isplitr; · iexact HE
    isplitr [HO]
    · isplitl [FY]; · iexact FY
      isplitl [A6]; · iexact A6
      isplitl [C6]; · iexact C6
      iexact OD
    iexact HO
  iintro ⟨⟨QY, LR, FD, Z6⟩, HO⟩
  iapply (d1 _ Q) $$ [A0 C0 HO]
  · isplitr; · iexact HE
    isplitr [HO]
    · isplitl [A0]; · iexact A0
      iexact C0
    iexact HO
  iintro ⟨⟨RS, Z0⟩, HO⟩
  iapply (d2 _ Q) $$ [A1 C1 A2 C2 GO HO]
  · isplitr; · iexact HE
    isplitr [HO]
    · isplitl [A1]; · iexact A1
      isplitl [C1]; · iexact C1
      isplitl [A2]; · iexact A2
      isplitl [C2]; · iexact C2
      iexact GO
    iexact HO
  iintro ⟨⟨AG, Z1, Z2⟩, HO⟩
  ihave FS := (Entails.of_eq (list4 (F := F) fun s => fwdSt m c s 8)) $$ FS
  icases FS with ⟨FS0, FS1, FS2, FS3⟩
  iapply (fwdWait_rule' m K c 0 0 4 rfl rfl) $$ [FS0 HO]
  · isplitr; · iexact HE
    isplitl [FS0]; · iexact FS0
    iexact HO
  iintro ⟨L0, L4, ZF0, HO⟩
  iapply (fwdWait_rule' m K c 1 1 5 rfl rfl) $$ [FS1 HO]
  · isplitr; · iexact HE
    isplitl [FS1]; · iexact FS1
    iexact HO
  iintro ⟨L1, L5, ZF1, HO⟩
  iapply (fwdWait_rule' m K c 2 2 6 rfl rfl) $$ [FS2 HO]
  · isplitr; · iexact HE
    isplitl [FS2]; · iexact FS2
    iexact HO
  iintro ⟨L2, L6, ZF2, HO⟩
  iapply (fwdWait_rule' m K c 3 3 7 rfl rfl) $$ [FS3 HO]
  · isplitr; · iexact HE
    isplitl [FS3]; · iexact FS3
    iexact HO
  iintro ⟨L3, L7, ZF3, HO⟩
  iapply (d4 _ Q) $$ [FD HO]
  · isplitr; · iexact HE
    isplitl [FD]; · iexact FD
    iexact HO
  iintro ⟨⟨QD, LD, OI⟩, HO⟩
  rw [show WP c (.ret ⟨⟩ : PG F) Q = iprop(|={Set.univ}=> Q ⟨⟩) from wp_ret ..]
  imodintro
  iapply Hk
  isplitl [HO]; · rw [owed_end]; iexact HO
  isplitl [HG]; · iexact HG
  isplitl [HP HR]
  · icases HP with ⟨P0, P1⟩
    icases HR with ⟨R0, R1⟩
    isplitl [P0]; · iexact P0
    isplitl [P1]; · iexact P1
    isplitl [R0]; · iexact R0
    iexact R1
  isplitl [HY HM HX QM QX QY QD]
  · isplitl [HY HM HX]
    · rw [← nxt_shift (hasY m c), ← nxt_shift (hasMe m c), ← nxt_shift (hasR m c)]
      isplitl [HY]; · iexact HY
      isplitl [HM]; · iexact HM
      iexact HX
    isplitl [QM]; · iexact QM
    isplitl [QX]; · iexact QX
    isplitl [QY]; · iexact QY
    iexact QD
  isplitl [RS AG RR LX LD LR L0 L1 L2 L3 L4 L5 L6 L7]
  · isplitl [RS]; · iexact RS
    isplitl [AG]
    · iapply (all_mono fun k => has_room (F := F) c (v := (c8 agSendM k).view) (w := sq (agT m c k))); iexact AG
    isplitl [RR]; · iexact RR
    isplitl [LX]
    · iapply (all_mono fun k => has_room (F := F) c (v := (c8 agxM k).view) (w := sq (agT m (xdev c) k))); iexact LX
    isplitr [LD]
    · iapply (all_mono fun k => has_join (F := F) c (v := (c8 agyM k).view) (q := fullShare) (w := sq (agT m (ydev c) k)) |>.trans (has_room c))
      rw [bigSep_sep']
      isplitr [LR]
      · iapply (Entails.of_eq (list8 (F := F) (landY m c fullShare.left)).symm)
        isplitl [L0]; · iexact L0
        isplitl [L1]; · iexact L1
        isplitl [L2]; · iexact L2
        isplitl [L3]; · iexact L3
        isplitl [L4]; · iexact L4
        isplitl [L5]; · iexact L5
        isplitl [L6]; · iexact L6
        iexact L7
      iexact LR
    iapply (all_mono fun k => has_room (F := F) c (v := (c8 agdM k).view) (w := sq (agT m (ydev (xdev c)) k))); iexact LD
  isplitl [ZB]; · iexact ZB
  isplitl [OI]; · iexact OI
  isplitr [ZF0 ZF1 ZF2 ZF3]
  · isplitl [Z0]; · iexact Z0
    isplitl [Z1]; · iexact Z1
    isplitl [Z2]; · iexact Z2
    isplitl [Z3]; · iexact Z3
    isplitl [Z4]; · iexact Z4
    isplitl [Z5]; · iexact Z5
    iexact Z6
  iapply (Entails.of_eq (list4 (F := F) fun s => idle c (dsem (.inr s))).symm)
  isplitl [ZF0]; · iexact ZF0
  isplitl [ZF1]; · iexact ZF1
  isplitl [ZF2]; · iexact ZF2
  iexact ZF3

end Cert.KernelIdeal.Pf

end
-- ==== Proof.Fund.lean ====
/-
# What the launch deals each device

The invariants of every cell, the positions and the tokens of the credits, dealt to the device that pays each; the
credits each device is owed by its neighbours.
-/
module

public import proofs.«01_k».proof.Proof.Whole
public import Idealize.ShloMosaic.Lib.Pipeline.Launch
public import Idealize.ShloMosaic.Lib.Pipeline.Kit

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores array by array -/

/-- A family over the seven arrays of eight, array by array. -/
theorem seven (Φ : Fin 7 × Fin 8 → sProp 𝕄) : bigSep Finset.univ Φ
    = iprop(bigSep Finset.univ (fun k => Φ (0, k)) ∗ bigSep Finset.univ (fun k => Φ (1, k)) ∗ bigSep Finset.univ (fun k => Φ (2, k)) ∗ bigSep Finset.univ (fun k => Φ (3, k))
      ∗ bigSep Finset.univ (fun k => Φ (4, k)) ∗ bigSep Finset.univ (fun k => Φ (5, k)) ∗ bigSep Finset.univ (fun k => Φ (6, k))) := by
  rw [bigSep_univ_prod, bigSep_univ_eq_bigSepL [(0 : Fin 7), 1, 2, 3, 4, 5, 6] (by decide) (by decide)]
  rfl

/-- A family over the shared semaphores: the barrier's, the seven arrays', the forwarding ones'. -/
theorem shared (Φ : Ck → sProp 𝕄) : bigSep Finset.univ Φ
    = iprop(Φ kB ∗ (bigSep Finset.univ fun x : Fin 7 × Fin 8 => Φ (.inr (.inl x))) ∗ bigSep Finset.univ fun s : Fin 4 => Φ (kF s)) := by
  rw [bigSep_univ_sum, bigSep_univ_sum, bigSep_univ_eq_bigSepL [()] (by decide) (by decide)]
  rfl

/-- A family over one device's own semaphores. -/
theorem locals (Φ : Lk → sProp 𝕄) : bigSep Finset.univ Φ
    = iprop((Φ (lPool 0) ∗ Φ (lPool 1)) ∗ (Φ (lRbuf 0) ∗ Φ (lRbuf 1)) ∗ bigSep Finset.univ fun k => Φ (lOut k)) := by
  rw [bigSep_univ_sum, bigSep_univ_sum, list2, list2]
  rfl

theorem share_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## What the launch element holds -/

theorem cell_injective : Function.Injective fun ck : Dev nD × Ck => cell ck.1 ck.2 := by
  rintro ⟨c, k⟩ ⟨c', k'⟩ h
  have h1 : c = c' := congrArg (fun g : GSem nD τ sig => g.1.1) h
  have h2 : csem k = csem k' := congrArg Prod.snd h
  rw [h1, csem_injective h2]

/-- Every shared cell of every device. -/
def allCells : Finset (GSem nD τ sig) := Finset.univ.map ⟨fun ck : Dev nD × Ck => cell ck.1 ck.2, cell_injective⟩

/-- The credits of a device's cells, enumerated: the barrier's two, one per array element, the forwarding cells' two rounds. -/
abbrev Tk : Type := Bool ⊕ (Fin 7 × Fin 8) ⊕ (Fin 4 × Bool)
abbrev tokK : Tk → Ck × ℕ × Bool
  | .inl b => (kB, 0, b)
  | .inr (.inl x) => (.inr (.inl x), 0, false)
  | .inr (.inr (s, r)) => (kF s, if r then 1 else 0, false)

theorem tokK_injective : Function.Injective tokK := by
  rintro (b | x | ⟨s, r⟩) (b' | x' | ⟨s', r'⟩) h
  · exact congrArg Sum.inl (congrArg (fun p : Ck × ℕ × Bool => p.2.2) h)
  · cases congrArg Prod.fst h
  · cases congrArg Prod.fst h
  · cases congrArg Prod.fst h
  · exact congrArg (fun x => Sum.inr (Sum.inl x)) (Sum.inl.inj (Sum.inr.inj (congrArg Prod.fst h)))
  · cases congrArg Prod.fst h
  · cases congrArg Prod.fst h
  · cases congrArg Prod.fst h
  · have hs : s = s' := Sum.inr.inj (Sum.inr.inj (congrArg Prod.fst h))
    have hr : (if r then 1 else 0 : ℕ) = if r' then 1 else 0 := congrArg (fun p : Ck × ℕ × Bool => p.2.1) h
    subst hs
    have : r = r' := by cases r <;> cases r' <;> first | rfl | cases hr
    rw [this]

abbrev tokOf (ct : Dev nD × Tk) : GSem nD τ sig × ℕ × Bool := (cell ct.1 (tokK ct.2).1, (tokK ct.2).2)
theorem tokOf_injective : Function.Injective tokOf := by
  rintro ⟨c, t⟩ ⟨c', t'⟩ h
  have h1 := cell_injective (a₁ := (c, (tokK t).1)) (a₂ := (c', (tokK t').1)) (congrArg Prod.fst h)
  have h2 : (tokK t).2 = (tokK t').2 := congrArg (fun p : GSem nD τ sig × ℕ × Bool => p.2) h
  have h3 : t = t' := tokK_injective (Prod.ext (congrArg Prod.snd h1) h2)
  rw [h3, show c = c' from congrArg Prod.fst h1]
def allToks : Finset (GSem nD τ sig × ℕ × Bool) := Finset.univ.map ⟨tokOf, tokOf_injective⟩

/-- The launch element: the pipeline's, the devices', no local copy in flight. -/
def u₀ : UU :=
  (initOf (Pipeline.cells cfgs cellOf_inj) (Pipeline.launchToks cfgs cellOf_inj), (initOf allCells allToks, 1))

/-- The tokens of the credits of device `c`'s own cells. -/
def ownToks (c : Dev nD) : sProp 𝕄 := bigSep Finset.univ fun t : Tk => dutyTok ER (cell c (tokK t).1) (tokK t).2.1 (tokK t).2.2

/-- What the launch element deals device `c`. -/
def G (c : Dev nD) : sProp 𝕄 :=
  iprop((bigSep Finset.univ fun k : Ck => roundState ER (sched m) (cell c k) 0)
    ∗ (bigSep Finset.univ fun k : Ck => at_ c k 0) ∗ (bigSep Finset.univ fun k : Ck => reached ER (cell c k) 0) ∗ ownToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Ck => Φ (cell c k) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The counters at zero -/

/-- A device's own counters at zero: the shared semaphores' but the barrier's, and the local ones'. -/
theorem ownSems0_eq (c : Dev nD) : (Pipeline.ownSems0 (Ix := Unit) (Name := ℕ) (U := UU) (Lvl := ℕ) (Val := Elt F) (τ := τ) osem c : sProp 𝕄)
    = iprop((bigSep Finset.univ fun x : Dk => semVal (cell c (.inr x)) 0) ∗ bigSep Finset.univ fun l : Lk => idle c (lsem l)) := by
  unfold Pipeline.ownSems0
  rw [bigSep_univ_sum]
  rfl
/-- The barrier's counter is the one that outlives the kernel. -/
theorem unscopedSems0_eq (c : Dev nD) : (unscopedSems0 c : sProp 𝕄) = semVal (cell c kB) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Ck => semVal (cell c k) 0) ∗ bigSep Finset.univ fun l : Lk => idle c (lsem l)) : sProp 𝕄) := by
  rw [ownSems0_eq, unscopedSems0_eq, show (bigSep Finset.univ fun k : Ck => (semVal (cell c k) 0 : sProp 𝕄))
      = iprop(semVal (cell c kB) 0 ∗ bigSep Finset.univ fun x : Dk => semVal (cell c (.inr x)) 0) from by
    rw [bigSep_univ_sum, bigSep_univ_eq_bigSepL [()] (by decide) (by decide)]; rfl]
  iintro ⟨⟨HD, HL⟩, HB⟩
  isplitl [HB HD]
  · isplitl [HB]; · iexact HB
    iexact HD
  iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (cell c k)))
          ∗ (bigSep Finset.univ fun k : Ck => at_ c k 0) ∗ (bigSep Finset.univ fun k : Ck => reached ER (cell c k) 0) ∗ ownToks c ∗ bigSep Finset.univ fun l : Lk => idle c (lsem l)) := by
  unfold G
  iintro ⟨Hos, Hus, Hst, Hat, Hr, Htok⟩
  ihave Hv := (sems0_eq (F := F) c) $$ [Hos Hus]
  · isplitl [Hos] <;> iassumption
  icases Hv with ⟨Hv, Hl⟩
  imod (show iprop((bigSep Finset.univ fun k : Ck => semVal (cell c k) 0) ∗ bigSep Finset.univ fun k : Ck => roundState ER (sched m) (cell c k) 0)
      ⊢ (|={Set.univ}=> bigSep Finset.univ fun k => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact Hl

/-! ## The tokens dealt to the devices that pay -/

/-- The tokens of the credits device `c` is to give. -/
def payToks (c : Dev nD) : sProp 𝕄 :=
  iprop((dutyTok ER (cell (ydev c) kB) 0 false ∗ dutyTok ER (cell (xdev c) kB) 0 true)
    ∗ (bigSep Finset.univ (fun k => tok c (kC 0 k) 0) ∗ bigSep Finset.univ (fun k => tok c (kC 1 k) 0) ∗ bigSep Finset.univ (fun k => tok c (kC 2 k) 0)
      ∗ bigSep Finset.univ (fun k => tok (ydev c) (kC 3 k) 0) ∗ bigSep Finset.univ (fun k => tok (xdev c) (kC 4 k) 0) ∗ bigSep Finset.univ (fun k => tok (ydev c) (kC 5 k) 0) ∗ bigSep Finset.univ (fun k => tok (xdev c) (kC 6 k) 0))
    ∗ bigSep Finset.univ fun s : Fin 4 => iprop(tok c (kF s) 0 ∗ tok c (kF s) 1))

/-- The neighbours' bijections of the devices. -/
def xE : Dev nD ≃ Dev nD := ⟨xdev, xdev, xdev_xdev, xdev_xdev⟩
def yE : Dev nD ≃ Dev nD := ⟨ydev, ydev, ydev_ydev, ydev_ydev⟩

/-- What each device holds, each device's neighbour holds. -/
theorem across_x (Φ : Dev nD → sProp 𝕄) : bigSep Finset.univ Φ = bigSep Finset.univ fun c => Φ (xdev c) := bigSep_univ_equiv xE Φ
theorem across_y (Φ : Dev nD → sProp 𝕄) : bigSep Finset.univ Φ = bigSep Finset.univ fun c => Φ (ydev c) := bigSep_univ_equiv yE Φ

theorem toks_eq (c : Dev nD) : (ownToks c : sProp 𝕄)
    = iprop((dutyTok ER (cell c kB) 0 false ∗ dutyTok ER (cell c kB) 0 true)
      ∗ (bigSep Finset.univ (fun k => tok c (kC 0 k) 0) ∗ bigSep Finset.univ (fun k => tok c (kC 1 k) 0) ∗ bigSep Finset.univ (fun k => tok c (kC 2 k) 0)
        ∗ bigSep Finset.univ (fun k => tok c (kC 3 k) 0) ∗ bigSep Finset.univ (fun k => tok c (kC 4 k) 0) ∗ bigSep Finset.univ (fun k => tok c (kC 5 k) 0) ∗ bigSep Finset.univ (fun k => tok c (kC 6 k) 0))
      ∗ bigSep Finset.univ fun s : Fin 4 => iprop(tok c (kF s) 0 ∗ tok c (kF s) 1)) := by
  unfold ownToks
  rw [bigSep_univ_sum, bigSep_univ_sum, seven, bigSep_univ_prod, bigSep_univ_eq_bigSepL [false, true] (by decide) (by decide),
    bigSep_congr (s := (Finset.univ : Finset (Fin 4))) (fun s _ => bigSep_univ_eq_bigSepL [false, true] (by decide) (by decide)
      (fun b : Bool => (dutyTok ER (cell c (tokK (.inr (.inr (s, b)))).1) (tokK (.inr (.inr (s, b)))).2.1 (tokK (.inr (.inr (s, b)))).2.2 : sProp 𝕄)))]
  rfl

theorem deal : (bigSep Finset.univ fun c : Dev nD => (ownToks c : sProp 𝕄)) = bigSep Finset.univ fun c : Dev nD => payToks c := by
  rw [bigSep_congr (s := Finset.univ) fun (c : Dev nD) _ => toks_eq (F := F) c]
  unfold payToks
  rw [bigSep_sep', bigSep_sep', bigSep_sep', bigSep_sep', bigSep_sep', bigSep_sep', bigSep_sep', bigSep_sep', bigSep_sep',
    across_y (fun c : Dev nD => (dutyTok ER (cell c kB) 0 false : sProp 𝕄)),
    across_x (fun c : Dev nD => (dutyTok ER (cell c kB) 0 true : sProp 𝕄)),
    across_y (fun c : Dev nD => bigSep Finset.univ fun k => (tok c (kC 3 k) 0 : sProp 𝕄)),
    across_x (fun c : Dev nD => bigSep Finset.univ fun k => (tok c (kC 4 k) 0 : sProp 𝕄)),
    across_y (fun c : Dev nD => bigSep Finset.univ fun k => (tok c (kC 5 k) 0 : sProp 𝕄)),
    across_x (fun c : Dev nD => bigSep Finset.univ fun k => (tok c (kC 6 k) 0 : sProp 𝕄))]
  simp only [bigSep_sep']

/-! ## Each device's share -/

/-- The shared records but the levels. -/
def records (K : Dev nD × Ck → ℕ) : sProp 𝕄 :=
  iprop((bigSep Finset.univ fun ck : Dev nD × Ck => cellInv ER (sched m) (K ck) (cell ck.1 ck.2))
    ∗ bigSep Finset.univ fun ck : Dev nD × Ck => reached ER (cell ck.1 ck.2) 0)

instance records_persistent (K : Dev nD × Ck → ℕ) : BI.Persistent (records m K) := by unfold records; infer_instance

/-- What device `c` alone holds: its positions, its tokens, its local counters. -/
def mine (c : Dev nD) : sProp 𝕄 :=
  iprop((bigSep Finset.univ fun k : Ck => at_ c k 0) ∗ payToks c ∗ bigSep Finset.univ fun l : Lk => idle c (lsem l))

def G' (c : Dev nD) : sProp 𝕄 := iprop(∃ K, records m K ∗ mine c)

theorem regroup :
    (bigSep Finset.univ fun c : Dev nD => iprop((bigSep Finset.univ fun k => iprop(∃ κ : ℕ, cellInv ER (sched m) κ (cell c k)))
          ∗ (bigSep Finset.univ fun k : Ck => at_ c k 0) ∗ (bigSep Finset.univ fun k : Ck => reached ER (cell c k) 0) ∗ ownToks c ∗ bigSep Finset.univ fun l : Lk => idle c (lsem l)) : sProp 𝕄)
      ⊢ bigSep Finset.univ (G' m) := by
  rw [bigSep_sep', bigSep_sep', bigSep_sep', bigSep_sep', deal, ← bigSep_univ_prod (fun ck : Dev nD × Ck => iprop(∃ κ : ℕ, cellInv ER (sched m) κ (cell ck.1 ck.2))),
    ← bigSep_univ_prod (fun ck : Dev nD × Ck => (reached ER (cell ck.1 ck.2) 0 : sProp 𝕄))]
  iintro ⟨HI, Hat, #HR, Htk, Hl⟩
  ihave HK := (BI.bigSep_exists_pi Finset.univ (fun (ck : Dev nD × Ck) (κ : ℕ) => (cellInv ER (sched m) κ (cell ck.1 ck.2) : sProp 𝕄))) $$ HI
  icases HK with ⟨%K, #HI⟩
  iapply (share_persistent (R := records m K) (Φ := mine) fun c _ => show iprop(records m K ∗ mine c) ⊢ G' m c from by
    unfold G'
    iintro H
    iexists K
    iexact H)
  isplitr
  · unfold records; isplitl; · iexact HI
    iexact HR
  · unfold mine
    rw [bigSep_sep', bigSep_sep']
    isplitl [Hat]; · iexact Hat
    isplitl [Htk]; · iexact Htk
    iexact Hl

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What device `c` owes at launch. -/
def O₀ (c : Dev nD) : CellTallies nD τ sig Unit := owed c 0 0 0 + tallyAt (cell (ydev c) kB) () 1 + tallyAt (cell (xdev c) kB) () 1

/-- The credits device `c` will receive. -/
def credsOf (c : Dev nD) : sProp 𝕄 :=
  iprop(cred (tallyAt (cell c kB) () 2)
    ∗ bigSep Finset.univ (fun k => cr c (kC 3 k)) ∗ bigSep Finset.univ (fun k => cr c (kC 4 k)) ∗ bigSep Finset.univ (fun k => cr c (kC 5 k)) ∗ bigSep Finset.univ (fun k => cr c (kC 6 k)))

theorem cred_x (k : Ck) (n : ℕ) (c : Dev nD) : (Pipeline.launchCred (fun d => tallyAt (cell (xdev d) k) () n) c : sProp 𝕄) ⊢ cred (tallyAt (cell c k) () n) :=
  Pipeline.launchCred_tallyAt (csem k) xdev xdev xdev_xdev xdev_xdev () n c
theorem cred_y (k : Ck) (n : ℕ) (c : Dev nD) : (Pipeline.launchCred (fun d => tallyAt (cell (ydev d) k) () n) c : sProp 𝕄) ⊢ cred (tallyAt (cell c k) () n) :=
  Pipeline.launchCred_tallyAt (csem k) ydev ydev ydev_ydev ydev_ydev () n c

/-- The launch credit of a family of eight dues, one per chunk. -/
theorem cred_tail (D : Fin 8 → Dev nD → CellTallies nD τ sig Unit) (R : Fin 8 → sProp 𝕄) (c : Dev nD) (h : ∀ k, Pipeline.launchCred (D k) c ⊢ R k) :
    (Pipeline.launchCred (fun d => tail (fun k => D k d) 0) c : sProp 𝕄) ⊢ bigSep Finset.univ R := by
  simp only [tail_zero]
  rw [Pipeline.launchCred_sum]
  exact bigSep_mono fun k _ => h k

theorem creds (c : Dev nD) : (Pipeline.launchCred O₀ c : sProp 𝕄) ⊢ credsOf c := by
  have e : (O₀ : Dev nD → CellTallies nD τ sig Unit) = fun d => (fun d => (fun d => (fun d => (fun d => tail (fun k => ow (ydev d) 3 k) 0) d
      + (fun d => tail (fun k => ow (xdev d) 4 k + ow (ydev d) 5 k) 0) d) d + (fun d => tail (fun k => ow (xdev d) 6 k) 0) d) d
      + (fun d => tallyAt (cell (ydev d) kB) () 1) d) d + (fun d => tallyAt (cell (xdev d) kB) () 1) d := rfl
  rw [e, Pipeline.launchCred_add, Pipeline.launchCred_add, Pipeline.launchCred_add, Pipeline.launchCred_add]
  unfold credsOf
  iintro ⟨⟨⟨⟨H3, H45⟩, H6⟩, HY⟩, HX⟩
  ihave HY' := (cred_y (F := F) kB 1 c) $$ HY
  ihave HX' := (cred_x (F := F) kB 1 c) $$ HX
  ihave H3' := (cred_tail (F := F) (fun k d => ow (ydev d) 3 k) (fun k => cr c (kC 3 k)) c fun k => cred_y (kC 3 k) N c) $$ H3
  ihave H45' := (cred_tail (F := F) (fun k d => ow (xdev d) 4 k + ow (ydev d) 5 k) (fun k => iprop(cr c (kC 4 k) ∗ cr c (kC 5 k))) c fun k => by
    rw [Pipeline.launchCred_add (fun d => ow (xdev d) 4 k) (fun d => ow (ydev d) 5 k)]
    exact BIClass.sep_mono (cred_x (kC 4 k) N c) (cred_y (kC 5 k) N c)) $$ H45
  ihave H6' := (cred_tail (F := F) (fun k d => ow (xdev d) 6 k) (fun k => cr c (kC 6 k)) c fun k => cred_x (kC 6 k) N c) $$ H6
  ihave H45'' := (Entails.of_eq (bigSep_sep' Finset.univ (fun k => cr (F := F) c (kC 4 k)) (fun k => cr c (kC 5 k)))) $$ H45'
  icases H45'' with ⟨H4, H5⟩
  isplitl [HY' HX']
  · iapply (show iprop(cred (tallyAt (cell c kB) () 1) ∗ cred (tallyAt (cell c kB) () 1)) ⊢ (cred (tallyAt (cell c kB) () 2) : sProp 𝕄) from by
      rw [show (tallyAt (cell c kB) () 2 : CellTallies nD τ sig Unit) = tallyAt (cell c kB) () 1 + tallyAt (cell c kB) () 1 from (tallyAt_add _ _ 1 1).symm]
      exact (cred_add _ _).2)
    isplitl [HY'] <;> iassumption
  isplitl [H3']; · iexact H3'
  isplitl [H4]; · iexact H4
  isplitl [H5]; · iexact H5
  iexact H6'

end Cert.KernelIdeal.Pf

end
-- ==== Proof.Split.lean ====
/-
# Cutting the buffers into chunks and joining them again

A buffer held whole is its chunks' element sets held apart, and what is left over; the windows of the kernel are row slabs,
told apart by one number.
-/
module

public import proofs.«01_k».proof.Proof.Whole

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Element sets told apart by a key -/

section Raw

variable {ℓ : Loc nD τ sig} {T : Type} [Fintype T] [DecidableEq T] {A : T → Finset (Idx ℓ)} {q : PosShare TreeShare}

/-- A family of sets told apart by a key of their elements. -/
theorem keyed_disjoint (key : Idx ℓ → ℕ) (kv : T → ℕ) (hi : Function.Injective kv) (hA : ∀ t i, i ∈ A t ↔ key i = kv t) :
    ∀ t ∈ (Finset.univ : Finset T), ∀ t' ∈ (Finset.univ : Finset T), t ≠ t' → Disjoint (A t) (A t') := by
  intro t _ t' _ hne
  refine Finset.disjoint_left.mpr fun i h h' => hne (hi ?_)
  rw [← (hA t i).mp h, ← (hA t' i).mp h']

theorem cut (f : Buf (Elt F) ℓ) (hd : ∀ t ∈ (Finset.univ : Finset T), ∀ t' ∈ (Finset.univ : Finset T), t ≠ t' → Disjoint (A t) (A t')) :
    ((ℓ ↦{q} f) : sProp 𝕄) = iprop((bigSep Finset.univ fun t => ℓ ↦[A t]{q} f) ∗ ℓ ↦[Finset.univ \ Finset.univ.biUnion A]{q} f) := by
  rw [← pointsTo_biUnion Finset.univ A hd]
  have h := pointsTo_split_subset (Val := Elt F) (Ix := Unit) (Name := ℕ) (U := UU) (Lvl := ℕ) (q := q) (f := f) (Finset.subset_univ (Finset.univ.biUnion A))
  exact equiv_iff.mp ⟨h.1, h.2⟩

/-- Chunks that cover the buffer, each at contents of its own with a property of its elements, are the buffer at contents
    with all of them. -/
theorem glue (P : T → Buf (Elt F) ℓ → Prop) (hP : ∀ t f g, (∀ i ∈ A t, f i = g i) → P t f → P t g) (f₀ : Buf (Elt F) ℓ)
    (hd : ∀ t ∈ (Finset.univ : Finset T), ∀ t' ∈ (Finset.univ : Finset T), t ≠ t' → Disjoint (A t) (A t')) (hc : ∀ i, ∃ t, i ∈ A t) :
    (bigSep Finset.univ fun t => iprop(∃ f, ⌜P t f⌝ ∗ ℓ ↦[A t]{q} f) : sProp 𝕄) ⊢ iprop(∃ g, ⌜∀ t, P t g⌝ ∗ ℓ ↦{q} g) := by
  haveI : Nonempty (Buf (Elt F) ℓ) := ⟨f₀⟩
  have hU : Finset.univ.biUnion A = Finset.univ := Finset.eq_univ_of_forall fun i => by
    obtain ⟨t, ht⟩ := hc i; exact Finset.mem_biUnion.mpr ⟨t, Finset.mem_univ _, ht⟩
  iintro H
  ihave H := (BI.bigSep_exists_pi Finset.univ fun (t : T) (f : Buf (Elt F) ℓ) => (iprop(⌜P t f⌝ ∗ ℓ ↦[A t]{q} f) : sProp 𝕄)) $$ H
  icases H with ⟨%fs, H⟩
  ihave H := (BI.bigSep_pure_sep Finset.univ (fun t => P t (fs t)) (fun t => (ℓ ↦[A t]{q} fs t : sProp 𝕄))) $$ H
  icases H with ⟨%hp, H⟩
  ihave H := (pointsTo_biUnion_join Finset.univ A fs f₀ hd) $$ H
  icases H with ⟨%g, %hg, H⟩
  iexists g
  isplitr
  · ipureintro
    exact fun t => hP t (fs t) g (fun i hi => (hg t (Finset.mem_univ t) i hi).symm) (hp t (Finset.mem_univ t))
  rw [hU]; iexact H

end Raw

/-- A buffer whose elements' keys are its chunks' numbers: whole, or chunk by chunk. -/
theorem chunks {ℓ : Loc nD τ sig} {n : ℕ} (A : Fin n → Finset (Idx ℓ)) (key : Idx ℓ → ℕ) (hk : ∀ i, key i < n)
    (hA : ∀ t i, i ∈ A t ↔ key i = t.val) (f₀ : Buf (Elt F) ℓ) :
    (iprop(∃ f, ℓ ↦{fullShare} f) : sProp 𝕄) = bigSep Finset.univ fun t => iprop(∃ f, ℓ ↦[A t]{fullShare} f) := by
  have hd := keyed_disjoint key (fun t : Fin n => t.val) Fin.val_injective hA
  refine equiv_iff.mp ⟨?_, ?_⟩
  · show iprop(∃ f, ℓ ↦{fullShare} f) ⊢ (bigSep Finset.univ fun t => iprop(∃ f, ℓ ↦[A t]{fullShare} f) : sProp 𝕄)
    iintro ⟨%f, H⟩
    ihave H := (Entails.of_eq (cut (F := F) f hd)) $$ H
    icases H with ⟨H, -⟩
    iapply (show (bigSep Finset.univ fun t => (ℓ ↦[A t]{fullShare} f) : sProp 𝕄) ⊢ bigSep Finset.univ fun t => iprop(∃ f, ℓ ↦[A t]{fullShare} f) from
      BI.bigSep_mono fun t _ => by
        show (ℓ ↦[A t]{fullShare} f : sProp 𝕄) ⊢ iprop(∃ f, ℓ ↦[A t]{fullShare} f)
        iintro H; iexists f; iexact H)
    iexact H
  · show (bigSep Finset.univ fun t => iprop(∃ f, ℓ ↦[A t]{fullShare} f) : sProp 𝕄) ⊢ iprop(∃ f, ℓ ↦{fullShare} f)
    iintro H
    ihave H := (show (bigSep Finset.univ fun t => iprop(∃ f, ℓ ↦[A t]{fullShare} f) : sProp 𝕄)
        ⊢ bigSep Finset.univ fun t => iprop(∃ f, ⌜True⌝ ∗ ℓ ↦[A t]{fullShare} f) from BI.bigSep_mono fun t _ => by
          show iprop(∃ f, ℓ ↦[A t]{fullShare} f) ⊢ (iprop(∃ f, ⌜True⌝ ∗ ℓ ↦[A t]{fullShare} f) : sProp 𝕄)
          iintro ⟨%f, H⟩; iexists f; isplitr; · ipureintro; trivial
          iexact H) $$ H
    ihave H := (glue (F := F) (fun (_ : Fin n) _ => True) (fun _ _ _ _ _ => trivial) f₀ hd (fun i => ⟨⟨key i, hk i⟩, (hA _ i).mpr rfl⟩)) $$ H
    icases H with ⟨%g, -, H⟩
    iexists g; iexact H

/-! ## The chunks of the scratch buffers -/

theorem mem_r8 (k : Fin 8) (i : S8x128x4096.Idx) : i ∈ (r8 k).set ↔ (i 0).val = k.val := by
  rw [LoadRect.mem_set]
  constructor
  · intro h
    obtain ⟨j, hj, h⟩ := h 0
    have hj' : j < 1 := hj
    have h' : (i 0).val = k.val + 1 * j := h
    omega
  · intro h a
    fin_cases a
    · exact ⟨0, Nat.one_pos, h⟩
    · exact ⟨(i 1).val, (i 1).isLt, by show (i 1).val = 0 + 1 * (i 1).val; omega⟩
    · exact ⟨(i 2).val, (i 2).isLt, by show (i 2).val = 0 + 1 * (i 2).val; omega⟩
theorem mem_r2 (k : Fin 2) (i : S2x128x4096.Idx) : i ∈ (r2 k).set ↔ (i 0).val = k.val := by
  rw [LoadRect.mem_set]
  constructor
  · intro h
    obtain ⟨j, hj, h⟩ := h 0
    have hj' : j < 1 := hj
    have h' : (i 0).val = k.val + 1 * j := h
    omega
  · intro h a
    fin_cases a
    · exact ⟨0, Nat.one_pos, h⟩
    · exact ⟨(i 1).val, (i 1).isLt, by show (i 1).val = 0 + 1 * (i 1).val; omega⟩
    · exact ⟨(i 2).val, (i 2).isLt, by show (i 2).val = 0 + 1 * (i 2).val; omega⟩

variable (m : (ℓ : Loc nD τ sig) → Buf (Elt F) ℓ) (c : Dev nD)

/-- A scratch buffer at some contents. -/
abbrev scr (b : Ref sig .tc) : sProp 𝕄 := iprop(∃ f : Buf (Elt F) ((c : Thread nD τ).loc b), ((c : Thread nD τ).loc b) ↦{fullShare} f)

include m in
theorem scr_pool : scr (F := F) c cc0_scratch0 = bigSep Finset.univ fun s : Fin 2 => room c (c2 poolM s).view :=
  chunks (ℓ := (c : Thread nD τ).loc cc0_scratch0) (fun s => (c2 poolM s).view.set) (fun i => (i 0).val) (fun i => (i 0).isLt)
    (fun k i => by rw [show (c2 poolM k).view.set = (r2 k).set from (View.set_reshape _ _).trans (View.set_slice_whole _ _)]; exact mem_r2 k i) (m _)
include m in
theorem scr_rbuf : scr (F := F) c cc0_scratch1 = bigSep Finset.univ fun s : Fin 2 => room c (c2 rbufM s).view :=
  chunks (ℓ := (c : Thread nD τ).loc cc0_scratch1) (fun s => (c2 rbufM s).view.set) (fun i => (i 0).val) (fun i => (i 0).isLt)
    (fun k i => by rw [show (c2 rbufM k).view.set = (r2 k).set from (View.set_reshape _ _).trans (View.set_slice_whole _ _)]; exact mem_r2 k i) (m _)
include m in
theorem scr_rsSend : scr (F := F) c cc0_scratch2 = bigSep Finset.univ fun k : Fin 8 => room c (c8 rsSendM k).view :=
  chunks (ℓ := (c : Thread nD τ).loc cc0_scratch2) (fun k => (c8 rsSendM k).view.set) (fun i => (i 0).val) (fun i => (i 0).isLt)
    (fun k i => by rw [show (c8 rsSendM k).view.set = (r8 k).set from (View.set_reshape _ _).trans (View.set_slice_whole _ _)]; exact mem_r8 k i) (m _)
include m in
theorem scr_agSend : scr (F := F) c cc0_scratch3 = bigSep Finset.univ fun k : Fin 8 => room c (c8 agSendM k).view :=
  chunks (ℓ := (c : Thread nD τ).loc cc0_scratch3) (fun k => (c8 agSendM k).view.set) (fun i => (i 0).val) (fun i => (i 0).isLt)
    (fun k i => by rw [show (c8 agSendM k).view.set = (r8 k).set from (View.set_reshape _ _).trans (View.set_slice_whole _ _)]; exact mem_r8 k i) (m _)
include m in
theorem scr_rsRecv : scr (F := F) c cc0_scratch4 = bigSep Finset.univ fun k : Fin 8 => room c (c8 rsRecvM k).view :=
  chunks (ℓ := (c : Thread nD τ).loc cc0_scratch4) (fun k => (c8 rsRecvM k).view.set) (fun i => (i 0).val) (fun i => (i 0).isLt)
    (fun k i => by rw [show (c8 rsRecvM k).view.set = (r8 k).set from (View.set_reshape _ _).trans (View.set_slice_whole _ _)]; exact mem_r8 k i) (m _)
include m in
theorem scr_agx : scr (F := F) c cc0_scratch5 = bigSep Finset.univ fun k : Fin 8 => room c (c8 agxM k).view :=
  chunks (ℓ := (c : Thread nD τ).loc cc0_scratch5) (fun k => (c8 agxM k).view.set) (fun i => (i 0).val) (fun i => (i 0).isLt)
    (fun k i => by rw [show (c8 agxM k).view.set = (r8 k).set from (View.set_reshape _ _).trans (View.set_slice_whole _ _)]; exact mem_r8 k i) (m _)
include m in
theorem scr_agy : scr (F := F) c cc0_scratch6 = bigSep Finset.univ fun k : Fin 8 => room c (c8 agyM k).view :=
  chunks (ℓ := (c : Thread nD τ).loc cc0_scratch6) (fun k => (c8 agyM k).view.set) (fun i => (i 0).val) (fun i => (i 0).isLt)
    (fun k i => by rw [show (c8 agyM k).view.set = (r8 k).set from (View.set_reshape _ _).trans (View.set_slice_whole _ _)]; exact mem_r8 k i) (m _)
include m in
theorem scr_agd : scr (F := F) c cc0_scratch7 = bigSep Finset.univ fun k : Fin 8 => room c (c8 agdM k).view :=
  chunks (ℓ := (c : Thread nD τ).loc cc0_scratch7) (fun k => (c8 agdM k).view.set) (fun i => (i 0).val) (fun i => (i 0).isLt)
    (fun k i => by rw [show (c8 agdM k).view.set = (r8 k).set from (View.set_reshape _ _).trans (View.set_slice_whole _ _)]; exact mem_r8 k i) (m _)

/-! ## The windows of the arguments and of the result: row slabs of 128 rows -/

/-- The quarter of the rows device `d` reduces. -/
def qd (d : Dev nD) : ℕ := 2 * (d.val % 2) + d.val / 2

theorem off1_eq : ∀ (d : Dev nD) (k : Fin 8), k0_off1 d (cw k) = ![0, 128 * (8 * qd (ydev d) + k.val), 0] := by decide +kernel
theorem off2_eq : ∀ (d : Dev nD) (k : Fin 8), k0_off2 d (cw k) = ![0, 128 * (8 * qd d + k.val), 0] := by decide +kernel
theorem off3_eq : ∀ (d : Dev nD) (k : Fin 8), k0_off3 d (cw k) = ![128 * (8 * qd d + k.val), 0] := by decide +kernel
theorem off4_eq : ∀ (d : Dev nD) (k : Fin 8), k0_off4 d (cw k) = ![128 * (8 * qd (xdev d) + k.val), 0] := by decide +kernel
theorem off5_eq : ∀ (d : Dev nD) (k : Fin 8), k0_off5 d (cw k) = ![128 * (8 * qd (ydev d) + k.val), 0] := by decide +kernel
theorem off6_eq : ∀ (d : Dev nD) (k : Fin 8), k0_off6 d (cw k) = ![128 * (8 * qd (ydev (xdev d)) + k.val), 0] := by decide +kernel

/-- A slab of 128 rows: the elements of one row block. -/
theorem mem_slab (off : Fin 2 → ℕ) (h : ∀ a, off a + S128x4096.size a ≤ S4096x4096.size a) (n : ℕ) (ho : off = ![128 * n, 0]) (i : S4096x4096.Idx) :
    i ∈ (Rect.unit (s := S4096x4096) off S128x4096.size h).set ↔ (i 0).val / 128 = n := by
  subst ho
  rw [LoadRect.mem_set]
  constructor
  · intro h
    obtain ⟨j, hj, h⟩ := h 0
    have hj' : j < 128 := hj
    have h' : (i 0).val = 128 * n + 1 * j := h
    omega
  · intro h a
    fin_cases a
    · exact ⟨(i 0).val % 128, Nat.mod_lt _ (by decide), by show (i 0).val = 128 * n + 1 * ((i 0).val % 128); omega⟩
    · exact ⟨(i 1).val, (i 1).isLt, by show (i 1).val = 0 + 1 * (i 1).val; omega⟩
theorem mem_slab3 (off : Fin 3 → ℕ) (h : ∀ a, off a + S1x128x4096.size a ≤ S1x4096x4096.size a) (n : ℕ) (ho : off = ![0, 128 * n, 0]) (i : S1x4096x4096.Idx) :
    i ∈ (Rect.unit (s := S1x4096x4096) off S1x128x4096.size h).set ↔ (i 1).val / 128 = n := by
  subst ho
  rw [LoadRect.mem_set]
  constructor
  · intro h
    obtain ⟨j, hj, h⟩ := h 1
    have hj' : j < 128 := hj
    have h' : (i 1).val = 128 * n + 1 * j := h
    omega
  · intro h a
    fin_cases a
    · exact ⟨(i 0).val, (i 0).isLt, by show (i 0).val = 0 + 1 * (i 0).val; omega⟩
    · exact ⟨(i 1).val % 128, Nat.mod_lt _ (by decide), by show (i 1).val = 128 * n + 1 * ((i 1).val % 128); omega⟩
    · exact ⟨(i 2).val, (i 2).isLt, by show (i 2).val = 0 + 1 * (i 2).val; omega⟩

/-- The two windows of the partial sum a device reads, the four of the result it writes, told apart by their quarters. -/
def qIn (c : Dev nD) (a : Fin 2) : ℕ := ![qd (ydev c), qd c] a
def qOut (c : Dev nD) (a : Fin 4) : ℕ := ![qd c, qd (xdev c), qd (ydev c), qd (ydev (xdev c))] a

theorem qIn_inj : ∀ c : Dev nD, Function.Injective (qIn c) := by decide +kernel
theorem qOut_inj : ∀ c : Dev nD, Function.Injective (qOut c) := by decide +kernel
theorem qOut_surj : ∀ (c : Dev nD) (n : Fin 4), ∃ a, qOut c a = n.val := by decide +kernel

/-- The device that reduces quarter `n`. -/
def dq (n : ℕ) : Dev nD := ⟨(2 * (n % 2) + n / 2 % 2) % 4, Nat.mod_lt _ (by decide)⟩
theorem dq_qd : ∀ d : Dev nD, dq (qd d) = d := by decide +kernel
theorem qd_lt : ∀ d : Dev nD, qd d < 4 := by decide +kernel

/-- The whole result: row block `8 q + k` is chunk `k` of the device that reduces quarter `q`. -/
def outVal : S4096x4096.Idx → Elt F .bf16 := fun i =>
  sq (e := .bf16) (agT m (dq ((i 0).val / 1024)) ⟨(i 0).val / 128 % 8, Nat.mod_lt _ (by decide)⟩)
    (fun a => match a with | 0 => ⟨(i 0).val % 128, Nat.mod_lt _ (by decide)⟩ | 1 => ⟨(i 1).val, (i 1).isLt⟩)

/-- A view's elements at contents it reads some way. -/
theorem has_at {sp : Space} {s : Shape} {e : EltTy} (v : View sig .tc sp s e) (q : PosShare TreeShare) (f : Buf (Elt F) (v.loc (c : Thread nD τ)))
    (w : s.Idx → Elt F e) (h : v.read (Elt F) f = w) : has c v q w = (v.loc (c : Thread nD τ) ↦[v.set]{q} f : sProp 𝕄) := by
  unfold has
  refine equiv_iff.mp ⟨?_, ?_⟩
  · show iprop(∃ f : Buf (Elt F) (v.loc (c : Thread nD τ)), ⌜v.read (Elt F) f = w⌝ ∗ (v.loc (c : Thread nD τ) ↦[v.set]{q} f)) ⊢ (v.loc (c : Thread nD τ) ↦[v.set]{q} f : sProp 𝕄)
    iintro ⟨%g, %hg, H⟩
    ihave H := (Entails.of_eq (pointsTo_congr (read_eq_on v (hg.trans h.symm)))) $$ H
    iexact H
  · show (v.loc (c : Thread nD τ) ↦[v.set]{q} f : sProp 𝕄) ⊢ iprop(∃ f : Buf (Elt F) (v.loc (c : Thread nD τ)), ⌜v.read (Elt F) f = w⌝ ∗ (v.loc (c : Thread nD τ) ↦[v.set]{q} f))
    iintro H
    iexists f
    isplitr; · ipureintro; exact h
    iexact H

theorem read_slab (off : Fin 2 → ℕ) (h : ∀ a, off a + S128x4096.size a ≤ S4096x4096.size a) (d : Dev nD) (k : Fin 8) (ho : off = ![128 * (8 * qd d + k.val), 0]) :
    (outM.slice (Rect.unit (s := S4096x4096) off S128x4096.size h) (fun _ => rfl)).view.read (Elt F) (outVal m) = sq (e := .bf16) (agT m d k) := by
  subst ho
  funext i
  have hi : (i 0).val < 128 := (i 0).isLt
  have e0 : ∀ j : S4096x4096.Idx, (j 0).val = 128 * (8 * qd d + k.val) + (i 0).val → (j 1).val = (i 1).val → outVal m j = sq (e := .bf16) (agT m d k) i := by
    intro j h0 h1
    unfold outVal
    have ea : dq ((j 0).val / 1024) = d := by rw [h0, show (128 * (8 * qd d + k.val) + (i 0).val) / 1024 = qd d by omega, dq_qd]
    have eb : (⟨(j 0).val / 128 % 8, Nat.mod_lt _ (by decide)⟩ : Fin 8) = k := Fin.ext (by show (j 0).val / 128 % 8 = k.val; omega)
    rw [ea, eb]
    refine congrArg (sq (e := .bf16) (agT m d k)) (funext fun a => ?_)
    fin_cases a
    · exact Fin.ext (by show (j 0).val % 128 = (i 0).val; omega)
    · exact Fin.ext h1
  exact e0 _ (by show 128 * (8 * qd d + k.val) + 1 * (i 0).val = _; omega) (by show 0 + 1 * (i 1).val = _; omega)

/-! ### The element sets of the windows -/

abbrev L0 (c : Dev nD) : Loc nD τ sig := (c : Thread nD τ).loc main_arg0
abbrev L1 (c : Dev nD) : Loc nD τ sig := (c : Thread nD τ).loc main_arg1
abbrev LO (c : Dev nD) : Loc nD τ sig := (c : Thread nD τ).loc main_v1

def inSet (c : Dev nD) (t : Fin 2 × Fin 8) : Finset (Idx (L0 c)) :=
  (![(partY c t.2).view.set, (partMe c t.2).view.set] : Fin 2 → Finset (Idx (L0 c))) t.1
def outSet (c : Dev nD) (t : Fin 4 × Fin 8) : Finset (Idx (LO c)) :=
  (![(outMe c t.2).view.set, (outX c t.2).view.set, (outY c t.2).view.set, (outD c t.2).view.set] : Fin 4 → Finset (Idx (LO c))) t.1

theorem block_inj {n : ℕ} (q : Fin n → ℕ) (hq : Function.Injective q) : Function.Injective fun t : Fin n × Fin 8 => 8 * q t.1 + t.2.val := by
  rintro ⟨a, k⟩ ⟨a', k'⟩ h
  have h' : 8 * q a + k.val = 8 * q a' + k'.val := h
  have h1 : a = a' := hq (by omega)
  subst h1
  exact congrArg (Prod.mk a) (Fin.ext (by omega))

theorem mem_inSet (t : Fin 2 × Fin 8) (i : Idx (L0 c)) : i ∈ inSet c t ↔ (i 1).val / 128 = 8 * qIn c t.1 + t.2.val := by
  obtain ⟨a, k⟩ := t
  fin_cases a
  · show i ∈ (partY c k).view.set ↔ _
    rw [show (partY c k).view.set = (Rect.unit (s := S1x4096x4096) (k0_off1 c (cw k)) S1x128x4096.size (k0_off1_inb c k)).set from
      (View.set_reshape _ _).trans (View.set_slice_whole _ _)]
    exact mem_slab3 _ _ _ (off1_eq c k) i
  · show i ∈ (partMe c k).view.set ↔ _
    rw [show (partMe c k).view.set = (Rect.unit (s := S1x4096x4096) (k0_off2 c (cw k)) S1x128x4096.size (k0_off2_inb c k)).set from
      (View.set_reshape _ _).trans (View.set_slice_whole _ _)]
    exact mem_slab3 _ _ _ (off2_eq c k) i

theorem mem_outSet (t : Fin 4 × Fin 8) (i : Idx (LO c)) : i ∈ outSet c t ↔ (i 0).val / 128 = 8 * qOut c t.1 + t.2.val := by
  obtain ⟨a, k⟩ := t
  fin_cases a
  · show i ∈ (outMe c k).view.set ↔ _
    rw [show (outMe c k).view.set = _ from View.set_slice_whole _ _]
    exact mem_slab _ _ _ (off3_eq c k) i
  · show i ∈ (outX c k).view.set ↔ _
    rw [show (outX c k).view.set = _ from View.set_slice_whole _ _]
    exact mem_slab _ _ _ (off4_eq c k) i
  · show i ∈ (outY c k).view.set ↔ _
    rw [show (outY c k).view.set = _ from View.set_slice_whole _ _]
    exact mem_slab _ _ _ (off5_eq c k) i
  · show i ∈ (outD c k).view.set ↔ _
    rw [show (outD c k).view.set = _ from View.set_slice_whole _ _]
    exact mem_slab _ _ _ (off6_eq c k) i

def resSet (c : Dev nD) (k : Fin 8) : Finset (Idx (L1 c)) := (residMe c k).view.set
theorem mem_resid (k : Fin 8) (i : Idx (L1 c)) : i ∈ resSet c k ↔ (i 0).val / 128 = 8 * qd c + k.val := by
  unfold resSet
  rw [show (residMe c k).view.set = _ from View.set_slice_whole _ _]
  exact mem_slab _ _ _ (off3_eq c k) i

/-- What of the arguments the device does not touch, held all along. -/
def rest0 : sProp 𝕄 := (L0 c ↦[Finset.univ \ Finset.univ.biUnion (inSet c)]{fullShare} m (L0 c))
def rest1 : sProp 𝕄 := (L1 c ↦[Finset.univ \ Finset.univ.biUnion (resSet c)]{fullShare} m (L1 c))

/-- The partial sum, whole: its windows and the rest. -/
theorem arg0_eq : ((L0 c ↦{fullShare} m (L0 c)) : sProp 𝕄)
    = iprop((bigSep Finset.univ (hasY m c) ∗ bigSep Finset.univ (hasMe m c)) ∗ rest0 m c) := by
  rw [cut (F := F) (A := inSet c) (m (L0 c)) (keyed_disjoint (fun i => (i 1).val / 128) _ (block_inj (qIn c) (qIn_inj c)) (mem_inSet c)),
    bigSep_univ_prod, list2,
    show bigSep Finset.univ (hasY m c) = bigSep Finset.univ fun k => (L0 c ↦[inSet c (0, k)]{fullShare} m (L0 c) : sProp 𝕄) from
      BI.bigSep_congr fun k _ => has_at (F := F) c (partY c k).view fullShare (m (L0 c)) _ rfl,
    show bigSep Finset.univ (hasMe m c) = bigSep Finset.univ fun k => (L0 c ↦[inSet c (1, k)]{fullShare} m (L0 c) : sProp 𝕄) from
      BI.bigSep_congr fun k _ => has_at (F := F) c (partMe c k).view fullShare (m (L0 c)) _ rfl]
  rfl

/-- The residual, whole: its windows and the rest. -/
theorem arg1_eq : ((L1 c ↦{fullShare} m (L1 c)) : sProp 𝕄) = iprop(bigSep Finset.univ (hasR m c) ∗ rest1 m c) := by
  have hi : Function.Injective fun k : Fin 8 => 8 * qd c + k.val := fun k k' h => Fin.ext (by
    have h' : 8 * qd c + k.val = 8 * qd c + k'.val := h
    omega)
  have hR : bigSep Finset.univ (hasR m c) = bigSep Finset.univ fun k => (L1 c ↦[resSet c k]{fullShare} m (L1 c) : sProp 𝕄) :=
    BI.bigSep_congr fun k _ => has_at (F := F) c (residMe c k).view fullShare (m (L1 c)) _ (show vR m c k = wR m c k from (sq_unsq (vR m c k)).symm)
  rw [hR, cut (F := F) (A := resSet c) (m (L1 c)) (keyed_disjoint (fun i => (i 0).val / 128) _ hi (mem_resid c))]
  rfl

theorem out_cover : Finset.univ.biUnion (outSet c) = Finset.univ := Finset.eq_univ_of_forall fun i => by
  have hi : (i 0).val < 4096 := (i 0).isLt
  obtain ⟨a, ha⟩ := qOut_surj c ⟨(i 0).val / 1024, by omega⟩
  refine Finset.mem_biUnion.mpr ⟨(a, ⟨(i 0).val / 128 % 8, Nat.mod_lt _ (by decide)⟩), Finset.mem_univ _, (mem_outSet c _ i).mpr ?_⟩
  show (i 0).val / 128 = 8 * qOut c a + (i 0).val / 128 % 8
  rw [ha]
  show (i 0).val / 128 = 8 * ((i 0).val / 1024) + (i 0).val / 128 % 8
  omega

/-- The result's buffer, whole: its windows. -/
theorem out_cut (f : Buf (Elt F) (LO c)) : ((LO c ↦{fullShare} f) : sProp 𝕄)
    = iprop((bigSep Finset.univ fun k => LO c ↦[outSet c (0, k)]{fullShare} f) ∗ (bigSep Finset.univ fun k => LO c ↦[outSet c (1, k)]{fullShare} f)
      ∗ (bigSep Finset.univ fun k => LO c ↦[outSet c (2, k)]{fullShare} f) ∗ (bigSep Finset.univ fun k => LO c ↦[outSet c (3, k)]{fullShare} f)) := by
  rw [cut (F := F) (A := outSet c) f (keyed_disjoint (fun i => (i 0).val / 128) _ (block_inj (qOut c) (qOut_inj c)) (mem_outSet c)),
    out_cover, Finset.sdiff_self, pointsTo_empty, bigSep_univ_prod, list4]
  exact equiv_iff.mp sep_emp

theorem out_start (f : Buf (Elt F) (LO c)) : (LO c ↦{fullShare} f : sProp 𝕄)
    ⊢ iprop((bigSep Finset.univ fun k => room c (outMe c k).view) ∗ (bigSep Finset.univ fun k => room c (outX c k).view)
      ∗ (bigSep Finset.univ fun k => room c (outY c k).view) ∗ (bigSep Finset.univ fun k => room c (outD c k).view)) := by
  have h : ∀ (A : Fin 8 → Finset (Idx (LO c))), (bigSep Finset.univ fun k => LO c ↦[A k]{fullShare} f : sProp 𝕄)
      ⊢ bigSep Finset.univ fun k => iprop(∃ f : Buf (Elt F) (LO c), LO c ↦[A k]{fullShare} f) := fun A => BI.bigSep_mono fun k _ => by
    show (LO c ↦[A k]{fullShare} f : sProp 𝕄) ⊢ iprop(∃ f : Buf (Elt F) (LO c), LO c ↦[A k]{fullShare} f)
    iintro H; iexists f; iexact H
  rw [out_cut]
  iintro ⟨H0, H1, H2, H3⟩
  isplitl [H0]; · iapply (h fun k => (outMe c k).view.set); iexact H0
  isplitl [H1]; · iapply (h fun k => (outX c k).view.set); iexact H1
  isplitl [H2]; · iapply (h fun k => (outY c k).view.set); iexact H2
  iapply (h fun k => (outD c k).view.set); iexact H3

theorem out_end : (LO c ↦{fullShare} outVal m : sProp 𝕄)
    = iprop(bigSep Finset.univ (resMe m c) ∗ bigSep Finset.univ (resX m c) ∗ bigSep Finset.univ (resY m c) ∗ bigSep Finset.univ (resD m c)) := by
  rw [out_cut,
    show bigSep Finset.univ (resMe m c) = bigSep Finset.univ fun k => (LO c ↦[outSet c (0, k)]{fullShare} outVal m : sProp 𝕄) from
      BI.bigSep_congr fun k _ => has_at (F := F) c (outMe c k).view fullShare (outVal m) _ (read_slab m _ _ c k (off3_eq c k)),
    show bigSep Finset.univ (resX m c) = bigSep Finset.univ fun k => (LO c ↦[outSet c (1, k)]{fullShare} outVal m : sProp 𝕄) from
      BI.bigSep_congr fun k _ => has_at (F := F) c (outX c k).view fullShare (outVal m) _ (read_slab m _ _ (xdev c) k (off4_eq c k)),
    show bigSep Finset.univ (resY m c) = bigSep Finset.univ fun k => (LO c ↦[outSet c (2, k)]{fullShare} outVal m : sProp 𝕄) from
      BI.bigSep_congr fun k _ => has_at (F := F) c (outY c k).view fullShare (outVal m) _ (read_slab m _ _ (ydev c) k (off5_eq c k)),
    show bigSep Finset.univ (resD m c) = bigSep Finset.univ fun k => (LO c ↦[outSet c (3, k)]{fullShare} outVal m : sProp 𝕄) from
      BI.bigSep_congr fun k _ => has_at (F := F) c (outD c k).view fullShare (outVal m) _ (read_slab m _ _ (ydev (xdev c)) k (off6_eq c k))]

end Cert.KernelIdeal.Pf

end
-- ==== Proof.Run.lean ====
/-
# The run of the four devices

The pipeline's proof data, the body's obligation, the launch, and what every final state holds.
-/
module

public import proofs.«01_k».proof.Proof.Fund
public import proofs.«01_k».proof.Proof.Split
public import proofs.«01_k».proof.Proof.Gen.KernelIdeal.Launch
public import Idealize.ShloMosaic.Lib.Pipeline.CollectiveSegs
public import Idealize.ShloMosaic.Lib.Pipeline.FrameBody
public import Idealize.ShloMosaic.Lib.Quiescent

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

local notation "𝕄" => MT nD τ sig Unit (Elt F) ℕ UU ℕ

variable (m : (ℓ : Loc nD τ sig) → Buf (Elt F) ℓ) (ρ : Dev nD → PrngReg)

/-! ## From the launch's holdings to the body's, and back -/

/-- The buffers of the inputs and the result, at given contents. -/
def mems (c : Dev nD) (f : Buf (Elt F) (LO c)) : sProp 𝕄 :=
  iprop((L0 c ↦{fullShare} m (L0 c)) ∗ (L1 c ↦{fullShare} m (L1 c)) ∗ (LO c ↦{fullShare} f))

/-- The kernel's scratch buffers, whatever they hold. -/
def scrs (c : Dev nD) : sProp 𝕄 :=
  iprop(scr c cc0_scratch0 ∗ scr c cc0_scratch1 ∗ scr c cc0_scratch2 ∗ scr c cc0_scratch3 ∗ scr c cc0_scratch4 ∗ scr c cc0_scratch5 ∗ scr c cc0_scratch6 ∗ scr c cc0_scratch7)

include m in
/-- What device `c` hands its neighbour across x at the handshake are its own two landing buffers; across y likewise. -/
theorem barX_own (c d : Dev nD) (h : xdev d = c) : barX (F := F) d = iprop(scr c cc0_scratch5 ∗ scr c cc0_scratch7) := by
  subst h; unfold barX; rw [bigSep_sep', ← scr_agx m, ← scr_agd m]
include m in
theorem barY_own (c d : Dev nD) (h : ydev d = c) : barY (F := F) d = iprop(scr c cc0_scratch4 ∗ scr c cc0_scratch6) := by
  subst h; unfold barY; rw [bigSep_sep', ← scr_rsRecv m, ← scr_agy m]

theorem dks (Φ : Dk → sProp 𝕄) : bigSep Finset.univ Φ
    = iprop((bigSep Finset.univ fun x : Fin 7 × Fin 8 => Φ (.inl x)) ∗ bigSep Finset.univ fun s : Fin 4 => Φ (.inr s)) := by
  rw [bigSep_univ_sum]; rfl

/-- What the launch deals a device is what the body starts from, beside the rows of the inputs it does not touch. -/
theorem body_start (c : Dev nD) (f : Buf (Elt F) (LO c)) :
    iprop(mine c ∗ credsOf c ∗ mems m c f ∗ scrs c ∗ due c (O₀ c))
      ⊢ (iprop(startBar c ∗ freeSlots c ∗ startMem m c ∗ startToks c ∗ startPos c ∗ rest0 m c ∗ rest1 m c) : sProp 𝕄) := by
  unfold mine credsOf mems scrs payToks
  rw [shared (fun k => (at_ c k 0 : sProp 𝕄)), seven (fun x => (at_ c (.inr (.inl x)) 0 : sProp 𝕄)), locals, bigSep_sep', scr_pool m, scr_rbuf m, list2, list2, arg0_eq, arg1_eq]
  iintro ⟨⟨⟨HaB, ⟨Ha0, Ha1, Ha2, Ha3, Ha4, Ha5, Ha6⟩, HaF⟩, ⟨⟨HtY, HtX⟩, Ht, HtF0, HtF1⟩, ⟨Hp0, Hp1⟩, ⟨Hr0, Hr1⟩, Hlo⟩,
    ⟨HcB, Hc⟩, ⟨⟨⟨HvY, HvM⟩, H0⟩, ⟨HvR, H1⟩, HO⟩, ⟨⟨S00, S01⟩, ⟨S10, S11⟩, S2, S3, S4, S5, S6, S7⟩, Hd⟩
  ihave HO' := (out_start c f) $$ HO
  ihave S2' := (Entails.of_eq (scr_rsSend m c)) $$ S2
  ihave S3' := (Entails.of_eq (scr_agSend m c)) $$ S3
  unfold startBar freeSlots startMem startToks startPos slot
  rw [barX_own m c (xdev c) (xdev_xdev c), barY_own m c (ydev c) (ydev_ydev c), bigSep_sep', bigSep_sep']
  isplitl [Hd HtY HtX HcB HaB S4 S5 S6 S7]
  · isplitl [Hd]; · iexact Hd
    isplitl [HtX]; · iexact HtX
    isplitl [HtY]; · iexact HtY
    isplitl [HcB]; · iexact HcB
    isplitl [HaB]; · iexact HaB
    isplitl [S5 S7]
    · isplitl [S5] <;> iassumption
    isplitl [S4] <;> iassumption
  isplitl [S00 S01 S10 S11 Hp0 Hp1 Hr0 Hr1]
  · isplitl [S00 Hp0]
    · isplitl [S00] <;> iassumption
    isplitl [S01 Hp1]
    · isplitl [S01] <;> iassumption
    isplitl [S10 Hr0]
    · isplitl [S10] <;> iassumption
    isplitl [S11] <;> iassumption
  isplitl [HvY HvM HvR HO' S2' S3']
  · isplitl [HvY HvM HvR]
    · isplitl [HvY]; · iexact HvY
      isplitl [HvM] <;> iassumption
    isplitl [HO']; · iexact HO'
    isplitl [S2'] <;> iassumption
  isplitl [Hlo Ht]
  · isplitl [Hlo]; · iexact Hlo
    iexact Ht
  isplitl [Ha0 Ha1 Ha2 Ha3 Ha4 Ha5 Ha6 Hc HtF0 HtF1 HaF]
  · isplitl [Ha0 Ha1 Ha2 Ha3 Ha4 Ha5 Ha6]
    · isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      iexact Ha6
    isplitl [Hc]; · iexact Hc
    isplitl [HtF0]; · iexact HtF0
    isplitl [HtF1] <;> iassumption
  isplitl [H0] <;> iassumption

/-- What the device holds at the end: the inputs as they were, the result, every counter at zero, the scratch buffers. -/
def Φ₁ (c : Dev nD) : sProp 𝕄 :=
  iprop((mems m c (outVal m) ∗ unscopedSems0 c)
    ∗ Pipeline.ownSems0 (Ix := Unit) (Name := ℕ) (U := UU) (Lvl := ℕ) (Val := Elt F) (τ := τ) osem c ∗ scrs c)

theorem body_end (c : Dev nD) :
    iprop(freeSlots c ∗ endMem m c ∗ endScr c ∗ endSem c ∗ rest0 m c ∗ rest1 m c) ⊢ Φ₁ m c := by
  unfold Φ₁ mems scrs
  rw [ownSems0_eq, unscopedSems0_eq, locals, dks, seven, scr_pool m, scr_rbuf m, list2, list2, arg0_eq, arg1_eq, out_end,
    scr_rsSend m, scr_agSend m, scr_rsRecv m, scr_agx m, scr_agy m, scr_agd m]
  unfold freeSlots slot endMem endScr endSem
  iintro ⟨⟨⟨S00, Hp0⟩, ⟨S01, Hp1⟩, ⟨S10, Hr0⟩, S11, Hr1⟩, ⟨⟨HvY, HvM, HvR⟩, HO⟩, Hscr, ⟨HB, Hlo, Hs, Hf⟩, H0, H1⟩
  isplitl [HvY HvM HvR HO H0 H1 HB]
  · isplitr [HB]
    · isplitl [HvY HvM H0]
      · isplitl [HvY HvM]
        · isplitl [HvY] <;> iassumption
        iexact H0
      isplitl [HvR H1]
      · isplitl [HvR] <;> iassumption
      iexact HO
    iexact HB
  isplitl [Hp0 Hp1 Hr0 Hr1 Hlo Hs Hf]
  · isplitl [Hs Hf]
    · isplitl [Hs]; · iexact Hs
      iexact Hf
    isplitl [Hp0 Hp1]
    · isplitl [Hp0] <;> iassumption
    isplitl [Hr0 Hr1]
    · isplitl [Hr0] <;> iassumption
    iexact Hlo
  isplitl [S00 S01]
  · isplitl [S00] <;> iassumption
  isplitl [S10 S11]
  · isplitl [S10] <;> iassumption
  iexact Hscr

/-! ## The pipeline's proof data -/

/-- What a device starts from but its scratch buffers: the records, its share, its credits, the inputs and the result. -/
def start (c : Dev nD) : sProp 𝕄 := iprop((∃ K, env m K ∗ mine c) ∗ credsOf c ∗ mems m c (m (LO c)))
def Φ₀ (c : Dev nD) : sProp 𝕄 := iprop(start m c ∗ scrs c)

def dats (_ : Fin 1) (c : Dev nD) : Dat τ (Elt F) Unit ℕ UU ℕ cfg0 c where
  A w := m ((cfg0.win w).arr.view.loc (c : Thread nD τ))
  after w _ := match w with
    | ⟨0, _⟩ => gam m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The body finds the scale staged. -/
theorem before_scale (c : Dev nD) (d) : (dats m 0 c).before (0 : Fin 1) t0_0 d = gam m c :=
  ((dats m 0 c).before_in_eq_fetched 0 rfl (fun _ => rfl) (fun _ _ _ => rfl) (fun t => by rw [fin_N0 t]; rfl) t0_0 d).trans rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t0_0.castSucc ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (gam m c))

theorem sound_body (c : Dev nD) : bodyPre m c ⊢ WP c (bodyOn c) (fun _ => bodyPost m c) := by
  unfold bodyPre Φ₀ start Dat.owesAt Pipeline.owesWithin
  rw [show (dats m 0 c).owed t0_0.castSucc = O₀ c from rfl]
  iintro ⟨⟨⟨⟨%K, #HE, Hm⟩, Hc, HM⟩, Hs⟩, ⟨%W, -, HO⟩, ⟨%d, %g, %hg, Hg⟩⟩
  ihave H := (body_start m c (m (LO c))) $$ [Hm Hc HM Hs HO]
  · isplitl [Hm]; · iexact Hm
    isplitl [Hc]; · iexact Hc
    isplitl [HM]; · iexact HM
    isplitl [Hs]; · iexact Hs
    unfold due; iexists W; iexact HO
  icases H with ⟨H1, H2, H3, H4, H5, H6, H7⟩
  ihave Hg' := (Entails.of_eq (congrArg (fun f => (((c : Thread nD τ).loc cc0_stg0_0) ↦{fullShare} f : sProp 𝕄)) (hg.trans (before_scale m c d)))) $$ Hg
  iapply (bodyOn_rule m K c) $$ [H1 H2 H3 H4 H5 Hg']
  · isplitr; · iexact HE
    isplitl [H1]; · iexact H1
    isplitl [Hg']; · iexact Hg'
    isplitl [H2]; · iexact H2
    isplitl [H3]; · iexact H3
    isplitl [H4]; · iexact H4
    iexact H5
  iintro ⟨HO, Hg, Hf, HM, HS, Hz⟩
  unfold bodyPost Dat.owesAt Pipeline.owesWithin
  rw [show (dats m 0 c).owed t0_0.succ = 0 from rfl]
  isplitl [Hf HM HS Hz H6 H7]
  · iapply (body_end m c)
    isplitl [Hf]; · iexact Hf
    isplitl [HM]; · iexact HM
    isplitl [HS]; · iexact HS
    isplitl [Hz]; · iexact Hz
    isplitl [H6] <;> iassumption
  isplitl [HO]
  · unfold due
    icases HO with ⟨%W', HO⟩
    iexists W'
    isplitr; · ipureintro; exact fun _ _ => Or.inl trivial
    iexact HO
  iexists (gam m c)
  isplitr; · (ipureintro; rfl)
  iexact Hg

set_option maxRecDepth 40000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ WP c (bodyAt0 t0_0) (fun _ => bodyPost m c)
  rw [body_eq]
  refine (sound_body m c).trans (Entails.of_eq ?_)
  exact (wp_deviceId (defs := defs₀ (F := F)) (𝒱 := 𝒱₀) (c := (c : Thread nD τ)) (bd := none) (k := fun d => bodyOn d) Set.univ).symm

/-! ## The launch's side conditions -/

theorem ownSemFacts : Pipeline.OwnSemFacts cfg0.spec osem := ⟨by decide +kernel, osem_injective, by decide +kernel⟩

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' records mems env
  iintro ⟨HM, Hlev, Hcr, -, ⟨%K, ⟨HI, HR⟩, Hm⟩⟩
  ihave Hc := (creds (F := F) c) $$ Hcr
  imodintro
  isplitl
  · isplitl [Hlev HI HR Hm]
    · iexists K
      isplitr [Hm]
      · isplitl [HI]; · iexact HI
        isplitl [HR] <;> iassumption
      iexact Hm
    isplitl [Hc]; · iexact Hc
    iexact HM
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrs
  iintro ⟨Hs, -, Hr⟩
  isplitl [Hs]; · iexact Hs
  iexact Hr

theorem phi1_exit (c : Dev nD) :
    (dats m 0 c).Φ (Fin.last cfg0.N) ⊢ iprop((mems m c (outVal m) ∗ unscopedSems0 c) ∗ Pipeline.ownSems0 osem c ∗ Pipeline.scopedRest cfg0.spec c) := by
  rw [show (dats m 0 c).Φ (Fin.last cfg0.N) = Φ₁ m c from rfl, scopedRest0_eq]
  unfold Φ₁ scrs
  iintro ⟨Hm, Ho, Hs⟩
  isplitl [Hm]; · iexact Hm
  isplitl [Ho]; · iexact Ho
  iexact Hs

theorem lv_stage (c : Dev nD) (w : Fin cfg0.W) (s : Fin (cfg0.win w).nbuf) : lv ((c : Thread nD τ), SemLoc.dma ((cfg0.win w).sem s)) () ≤ 0 := by
  have h : ckOf (SemLoc.dma ((cfg0.win w).sem s)) = none := by
    unfold ckOf
    rw [dif_neg]
    rintro ⟨k, hk⟩
    rcases k with ⟨⟩ | x
    · cases hk
    · exact ownSemFacts.disj (.inl x) w s hk
  show (ckOf (SemLoc.dma ((cfg0.win w).sem s))).elim 0 lvK ≤ 0
  rw [h]; exact le_rfl

theorem above_O₀ (c : Dev nD) : Above 0 (O₀ c) :=
  (((above1 c 0 0 0).mono (Nat.zero_le 1)).add (Above.tally _ _ _ (by show (0 : ℕ) < 1; decide))).add (Above.tally _ _ _ (by show (0 : ℕ) < 1; decide))

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact (above_O₀ c).mayWait c _ (lv_stage c w s)
    · exact (Above.zero 0).mayWait c _ (lv_stage c w s)

/-- The inputs and the result, read off the final memory. -/
theorem mems_read (c : Dev nD) (f : Buf (Elt F) (LO c)) (s' : Phys nD τ sig (Elt F)) :
    iprop(mems m c f ∗ SI s') ⊢ (iprop(⌜s'.mem.mem (L0 c) = m (L0 c) ∧ s'.mem.mem (L1 c) = m (L1 c) ∧ s'.mem.mem (LO c) = f⌝ ∗ SI s') : sProp 𝕄) := by
  have one (ℓ : Loc nD τ sig) (g : Buf (Elt F) ℓ) : iprop((ℓ ↦{fullShare} g) ∗ SI s') ⊢ (iprop(⌜s'.mem.mem ℓ = g⌝ ∗ SI s') : sProp 𝕄) := by
    iintro ⟨H, HSI⟩
    ihave %h := (SI_pointsTo_agree (st := s') (ℓ := ℓ) (I := Finset.univ) (q := fullShare) (f := g)) $$ [H HSI]
    · isplitl [HSI] <;> iassumption
    isplitr; · ipureintro; exact funext fun i => h i (Finset.mem_univ i)
    iexact HSI
  unfold mems
  iintro ⟨⟨H0, H1, HO⟩, HSI⟩
  ihave H := (one _ _) $$ [H0 HSI]
  · isplitl [H0] <;> iassumption
  icases H with ⟨%h0, HSI⟩
  ihave H := (one _ _) $$ [H1 HSI]
  · isplitl [H1] <;> iassumption
  icases H with ⟨%h1, HSI⟩
  ihave H := (one _ _) $$ [HO HSI]
  · isplitl [HO] <;> iassumption
  icases H with ⟨%hO, HSI⟩
  isplitr; · ipureintro; exact ⟨h0, h1, hO⟩
  iexact HSI

/-! ## The run -/

/-- The final memory on device `c`: the inputs as launched, the result's buffer at `outVal`. -/
def AtEnd (c : Dev nD) (s : MemSt nD τ sig (Elt F)) : Prop :=
  s.mem (L0 c) = m (L0 c) ∧ s.mem (L1 c) = m (L1 c) ∧ s.mem ((c : Thread nD τ).loc main_arg2) = m ((c : Thread nD τ).loc main_arg2) ∧ s.mem (LO c) = outVal m

set_option maxRecDepth 8000 in
/-- From any memory with zero counters, every weakly fair execution of @main on the four devices terminates; in every
    final state each device's inputs are as launched, its result is `outVal` and every counter is zero. -/
theorem run_main : θ_run defs (onTc (τ := τ) (main (F := F))) (⟨m, fun _ => 0, ρ⟩ : MemSt nD τ sig (Elt F)) (fun r => (∀ c, AtEnd m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_all m) $$ HX with HG
      imodintro
      isplitl [HP] <;> iassumption)
    (hglob := glob m)
    (hA := fun _ _ => rfl) (hpf := fun _ k => k.elim0)
    (X := start m) (Y := fun c => iprop(mems m c (outVal m) ∗ unscopedSems0 c)) (Z := fun _ => iprop(emp))
    (hX := start_intro m ρ) (hin := phi0_intro m) (hout := phi1_exit m)
    (QY := fun c s => (s.mem (L0 c) = m (L0 c) ∧ s.mem (L1 c) = m (L1 c) ∧ s.mem (LO c) = outVal m)
      ∧ ∀ sm : SemLoc sig, sm.isScoped .tc = false → s.sem ((c.tc : Thread nD τ), sm) = 0)
    (hY := fun c s' => by
      iintro ⟨⟨Hm, Hu⟩, -, HSI⟩
      ihave H := (mems_read m c (outVal m) s') $$ [Hm HSI]
      · isplitl [Hm] <;> iassumption
      icases H with ⟨%h, HSI⟩
      imod (Pipeline.unscopedSems0_read (X := unscopedSems0 c) (c := c) fupd_intro s') $$ [Hu HSI] with ⟨%h', HSI⟩
      · isplitl [Hu] <;> iassumption
      imodintro
      isplitr; · ipureintro; exact ⟨h, h'⟩
      iexact HSI)
    (hQ := fun _ h hs => ⟨fun c => ⟨(h c).2.2.1.1, (h c).2.2.1.2.1, ((h c).1 0).trans ((dats m 0 c).arrAt_in (0 : Fin 1) rfl _), (h c).2.2.1.2.2⟩,
      sem_eq_zero hs fun c => (h c).2.2.2⟩)

end Cert.KernelIdeal.Pf

end
-- ==== Proof.Value.lean ====
/-
# The values over the extended reals

The result's element at row `i`, column `j` is, on every device, the reference's: the row of the two partial sums and
the residual added up, divided by the root of its mean square, times the scale. The kernel adds the reducing device's own
rows first, then the neighbour's, the reference block 0 first: the same sum, since addition is commutative.
-/
module

public import proofs.«01_k».proof.Proof.Split
public import proofs.«01_k».proof.Proof.Gen.ReferenceIdeal.Run
public import Idealize.ShloMosaic.Lib.Pointwise
public import Idealize.ShloMosaic.Lib.Layout

@[expose] public section

noncomputable section

namespace Cert.KernelIdeal.Pf

open Cert.KernelIdeal Cert.KernelIdeal.Gen
open Idealize.ShloMosaic
open Idealize.ShloMosaic.TcCoe
open Idealize.SL.Sem

/-- One element of a normalised row `y`, scaled by `g`. -/
def norm (y : Fin 4096 → EReal) (g : EReal) (j : Fin 4096) : EReal :=
  Ideal.div (y j) (Ideal.sqrt (Ideal.div (∑ x, y x * y x) (Ideal.ofBits FTy.f32 1166016512#32) + Ideal.ofBits FTy.f32 897988541#32)) * g

/-- What the kernel finishes a chunk with, at an element. -/
theorem pay24_apply (a : FVec Ideal S1x128x4096 .f32) (b : FVec Ideal S1x128x4096 .bf16) (r : FVec Ideal S1x128x4096 .f32)
    (g : FVec Ideal S4096 .f32) (i : Fin 128) (j : Fin 4096) :
    k0_pay24 (F := Ideal) a b r g (ix3 0 i j) = norm (fun x => a (ix3 0 i x) + b (ix3 0 i x) + r (ix3 0 i x)) (g (ix1 j)) j := by
  unfold norm
  pointwise [k0_pay24]

/-- What the kernel sends in the first exchange, at an element: the rows themselves. -/
theorem pay1_apply (a : FVec Ideal S1x128x4096 .f32) (i : Fin 128) (j : Fin 4096) :
    k0_pay1 (F := Ideal) a (ix3 0 i j) = a (ix3 0 i j) := by
  pointwise [k0_pay1]

/-- The reference's result, of whole arrays. -/
def refVal (P : FVec Ideal Cert.ReferenceIdeal.S2x4096x4096 .f32) (R : FVec Ideal Cert.ReferenceIdeal.S4096x4096 .f32)
    (G : FVec Ideal Cert.ReferenceIdeal.S4096 .f32) : FVec Ideal Cert.ReferenceIdeal.S4096x4096 .bf16 :=
  truncf .bf16 (mulf (Host.divf (addf (Host.reduceAdd P (constant Cert.ReferenceIdeal.S_ .f32 0x00000000#32) Cert.ReferenceIdeal.Gen.reducesTo_S2x4096x4096_S4096x4096_d0 Cert.ReferenceIdeal.Gen.h_S_) R)
    (broadcastInDim Cert.ReferenceIdeal.S4096x4096 ![0, 1] Cert.ReferenceIdeal.Gen.bcast_S4096x1_S4096x4096_0_1 (Host.sqrt (addf (Host.divf (broadcastInDim Cert.ReferenceIdeal.S4096x1 ![0] Cert.ReferenceIdeal.Gen.bcast_S4096_S4096x1_0
      (Host.reduceAdd (mulf (addf (Host.reduceAdd P (constant Cert.ReferenceIdeal.S_ .f32 0x00000000#32) Cert.ReferenceIdeal.Gen.reducesTo_S2x4096x4096_S4096x4096_d0 Cert.ReferenceIdeal.Gen.h_S_) R) (addf (Host.reduceAdd P (constant Cert.ReferenceIdeal.S_ .f32 0x00000000#32) Cert.ReferenceIdeal.Gen.reducesTo_S2x4096x4096_S4096x4096_d0 Cert.ReferenceIdeal.Gen.h_S_) R)) (constant Cert.ReferenceIdeal.S_ .f32 0x00000000#32) Cert.ReferenceIdeal.Gen.reducesTo_S4096x4096_S4096_d1 Cert.ReferenceIdeal.Gen.h_S_))
      (broadcastInDim Cert.ReferenceIdeal.S4096x1 ![] Cert.ReferenceIdeal.Gen.bcast_S_S4096x1 (constant Cert.ReferenceIdeal.S_ .f32 0x45800000#32))) (broadcastInDim Cert.ReferenceIdeal.S4096x1 ![] Cert.ReferenceIdeal.Gen.bcast_S_S4096x1 (constant Cert.ReferenceIdeal.S_ .f32 0x358637BD#32))))))
    (broadcastInDim Cert.ReferenceIdeal.S4096x4096 ![0, 1] Cert.ReferenceIdeal.Gen.bcast_S1x4096_S4096x4096_0_1 (broadcastInDim Cert.ReferenceIdeal.S1x4096 ![1] Cert.ReferenceIdeal.Gen.bcast_S4096_S1x4096_1 G))) Cert.ReferenceIdeal.Gen.bitsLt_bf16_f32

/-- The reference's result at an element. -/
theorem refVal_apply (P : FVec Ideal Cert.ReferenceIdeal.S2x4096x4096 .f32) (R : FVec Ideal Cert.ReferenceIdeal.S4096x4096 .f32)
    (G : FVec Ideal Cert.ReferenceIdeal.S4096 .f32) (i j : Fin 4096) :
    refVal P R G (ix2 i j) = norm (fun x => P (ix3 0 i x) + P (ix3 1 i x) + R (ix2 i x)) (G (ix1 j)) j := by
  unfold norm
  pointwise [refVal]
  simp only [Fin.sum_univ_two, zero_add]

variable (m : (ℓ : Loc nD τ sig) → Buf (Elt Ideal) ℓ)

/-- The kernel's result at an element: of the finished chunk that holds it. -/
theorem outVal_apply (i j : Fin 4096) :
    outVal m (ix2 i j) = agT m (dq (i.val / 1024)) ⟨i.val / 128 % 8, Nat.mod_lt _ (by decide)⟩ (ix3 0 ⟨i.val % 128, Nat.mod_lt _ (by decide)⟩ j) := by
  show (agT m (dq (i.val / 1024)) ⟨i.val / 128 % 8, Nat.mod_lt _ (by decide)⟩) _ = _
  refine congrArg _ ?_
  pointwise

/-- The arguments of a device at an element: its partial sum, the residual, the scale. -/
def pA (c : Dev nD) (i j : Fin 4096) : EReal := m (L0 c) (ix3 0 i j)
def rA (c : Dev nD) (i j : Fin 4096) : EReal := m (L1 c) (ix2 i j)
def gA (c : Dev nD) (j : Fin 4096) : EReal := m ((c : Thread nD τ).loc main_arg2) (ix1 j)

/-- A chunk of a device's own partial sum, at an element. -/
theorem vMe_apply (c : Dev nD) (k : Fin 8) (r : Fin 128) (i j : Fin 4096) (h : 128 * (8 * qd c + k.val) + r.val = i.val) :
    vMe m c k (ix3 0 r j) = pA m c i j := by
  show m (L0 c) _ = m (L0 c) _
  refine congrArg _ (funext fun t => ?_)
  have e := off2_eq c k
  fin_cases t
  · exact Fin.ext (by show k0_off2 c (cw k) 0 + 1 * 0 = 0; rw [e]; rfl)
  · exact Fin.ext (by show k0_off2 c (cw k) 1 + 1 * r.val = i.val; rw [e, ← h]; show 128 * (8 * qd c + k.val) + 1 * r.val = _; omega)
  · exact Fin.ext (by show k0_off2 c (cw k) 2 + 1 * j.val = j.val; rw [e]; show 0 + 1 * j.val = _; omega)

/-- The same of the quarter its y neighbour reduces. -/
theorem vY_apply (c : Dev nD) (k : Fin 8) (r : Fin 128) (i j : Fin 4096) (h : 128 * (8 * qd (ydev c) + k.val) + r.val = i.val) :
    vY m c k (ix3 0 r j) = pA m c i j := by
  show m (L0 c) _ = m (L0 c) _
  refine congrArg _ (funext fun t => ?_)
  have e := off1_eq c k
  fin_cases t
  · exact Fin.ext (by show k0_off1 c (cw k) 0 + 1 * 0 = 0; rw [e]; rfl)
  · exact Fin.ext (by show k0_off1 c (cw k) 1 + 1 * r.val = i.val; rw [e, ← h]; show 128 * (8 * qd (ydev c) + k.val) + 1 * r.val = _; omega)
  · exact Fin.ext (by show k0_off1 c (cw k) 2 + 1 * j.val = j.val; rw [e]; show 0 + 1 * j.val = _; omega)

/-- A chunk of the residual, at an element. -/
theorem vR_apply (c : Dev nD) (k : Fin 8) (r : Fin 128) (i j : Fin 4096) (h : 128 * (8 * qd c + k.val) + r.val = i.val) :
    unsq (e := .f32) (vR m c k) (ix3 0 r j) = rA m c i j := by
  have hs : unsq (e := .f32) (vR m c k) (ix3 0 r j) = vR m c k (ix2 r j) := by
    unfold unsq
    refine congrArg _ ?_
    rw [Equiv.symm_apply_eq]
    pointwise
  rw [hs]
  show m (L1 c) _ = m (L1 c) _
  refine congrArg _ (funext fun t => ?_)
  have e := off3_eq c k
  fin_cases t
  · exact Fin.ext (by show k0_off3 c (cw k) 0 + 1 * r.val = i.val; rw [e, ← h]; show 128 * (8 * qd c + k.val) + 1 * r.val = _; omega)
  · exact Fin.ext (by show k0_off3 c (cw k) 1 + 1 * j.val = j.val; rw [e]; show 0 + 1 * j.val = _; omega)

/-- The staged scale is the argument. -/
theorem gam_apply (c : Dev nD) (j : Fin 4096) : gam m c (ix1 j) = gA m c j := by
  show m ((c : Thread nD τ).loc main_arg2) _ = m ((c : Thread nD τ).loc main_arg2) _
  refine congrArg _ (funext fun t => ?_)
  fin_cases t
  exact Fin.ext (by show 0 * 4096 + 1 * j.val = j.val; omega)

/-- A finished chunk at an element: the normalised row of the device's own partial sum, its neighbour's, and the residual. -/
theorem agT_apply (c : Dev nD) (k : Fin 8) (r : Fin 128) (i j : Fin 4096) (h : 128 * (8 * qd c + k.val) + r.val = i.val) :
    agT m c k (ix3 0 r j)
      = norm (fun x => pA m c i x + pA m (ydev c) i x + rA m c i x) (gA m c j) j := by
  unfold agT rsT
  rw [pay24_apply, gam_apply]
  refine congrArg (fun y => norm y _ j) (funext fun x => ?_)
  rw [pay1_apply, vMe_apply m c k r i x h, vR_apply m c k r i x h, vY_apply m (ydev c) k r i x (by rw [ydev_ydev]; exact h)]

/-- The block of the partial sums a device holds: its y coordinate. -/
theorem mesh_y (c : Dev nD) : ((Layout.meshBlock [2, 2] ![[1], [], []] c) 0).val = c.val % 2 := by
  revert c; decide

theorem ydev_val : ∀ c : Dev nD, (ydev c).val % 2 = 1 - c.val % 2 := by decide +kernel
theorem dq_lt (n : ℕ) : n < 4 → qd (dq n) = n := by
  intro h; interval_cases n <;> decide +kernel

/-- **The values agree**: where each device's arguments are its parts of the whole arrays, the result every device ends
    with is the reference's. -/
theorem outVal_eq (P : FVec Ideal Cert.ReferenceIdeal.S2x4096x4096 .f32) (R : FVec Ideal Cert.ReferenceIdeal.S4096x4096 .f32)
    (G : FVec Ideal Cert.ReferenceIdeal.S4096 .f32)
    (h0 : ∀ c : Dev nD, m (L0 c) = Layout.blockN ⟨3, ![1, 4096, 4096]⟩ ⟨3, ![2, 4096, 4096]⟩ (Layout.meshBlock [2, 2] ![[1], [], []] c) P)
    (h1 : ∀ c : Dev nD, m (L1 c) = R) (h2 : ∀ c : Dev nD, m ((c : Thread nD τ).loc main_arg2) = G) :
    outVal m = refVal P R G := by
  have hb (c : Dev nD) (i x : Fin 4096) : pA m c i x = P (ix3 ⟨c.val % 2, Nat.mod_lt _ (by decide)⟩ i x) := by
    unfold pA
    rw [h0 c, Layout.blockN_apply]
    refine congrArg P (funext fun t => ?_)
    fin_cases t
    · refine Fin.ext ?_
      rw [Layout.TilesN.idx_val]
      show ((Layout.meshBlock [2, 2] ![[1], [], []] c) 0).val * 1 + 0 = c.val % 2
      rw [mesh_y]; omega
    · refine Fin.ext ?_
      rw [Layout.TilesN.idx_val]
      show 0 * 4096 + i.val = i.val
      omega
    · refine Fin.ext ?_
      rw [Layout.TilesN.idx_val]
      show 0 * 4096 + x.val = x.val
      omega
  have hr (c : Dev nD) (i x : Fin 4096) : rA m c i x = R (ix2 i x) := by unfold rA; rw [h1 c]
  have hg (c : Dev nD) (x : Fin 4096) : gA m c x = G (ix1 x) := by unfold gA; rw [h2 c]
  funext p
  obtain ⟨i, j, rfl⟩ : ∃ i j : Fin 4096, p = ix2 i j := ⟨p 0, p 1, by funext t; fin_cases t <;> rfl⟩
  have hi := i.isLt
  rw [outVal_apply, refVal_apply, agT_apply m _ _ _ i j (by
    show 128 * (8 * qd (dq (i.val / 1024)) + i.val / 128 % 8) + i.val % 128 = i.val
    rw [dq_lt _ (by omega)]; omega), hg]
  refine congrArg (fun y => norm y _ j) (funext fun x => ?_)
  rw [hb, hb, hr]
  refine congrArg (· + R (ix2 i x)) ?_
  generalize dq (i.val / 1024) = c
  have hy := ydev_val c
  rcases Nat.mod_two_eq_zero_or_one c.val with e | e
  · rw [show (⟨c.val % 2, Nat.mod_lt _ (by decide)⟩ : Fin 2) = 0 from Fin.ext e,
      show (⟨(ydev c).val % 2, Nat.mod_lt _ (by decide)⟩ : Fin 2) = 1 from Fin.ext (by show (ydev c).val % 2 = 1; omega)]
  · rw [show (⟨c.val % 2, Nat.mod_lt _ (by decide)⟩ : Fin 2) = 1 from Fin.ext e,
      show (⟨(ydev c).val % 2, Nat.mod_lt _ (by decide)⟩ : Fin 2) = 0 from Fin.ext (by show (ydev c).val % 2 = 0; omega)]
    exact add_comm _ _

end Cert.KernelIdeal.Pf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.K.Run
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel, as printed: every run ends, without fault, the arguments as launched and every counter at zero. -/
theorem frame_kernel : Cert.quiescent_Kernel := fun m g _ =>
  (θ_run Cert.Kernel.defs _ _).mono (fun _ h => ⟨fun c => ⟨(h.1 c).1, (h.1 c).2.1, (h.1 c).2.2.1⟩, h.2⟩)
    (Cert.Kernel.Pf.run_main (F := Bits) m g)

/-- The same of the kernel over the extended reals. -/
theorem frame_kernelIdeal : Cert.quiescent_KernelIdeal := fun m g _ =>
  (θ_run Cert.KernelIdeal.defs _ _).mono (fun _ h => ⟨fun c => ⟨(h.1 c).1, (h.1 c).2.1, (h.1 c).2.2.1⟩, h.2⟩)
    (Cert.KernelIdeal.Pf.run_main (F := Ideal) m g)

/-- The reference runs, its arguments unchanged; it has no semaphores. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Over the extended reals, from arguments that are the devices' parts of the whole arrays, every device's result ends at
    the reference's. -/
theorem algebraic : Cert.algebraic_KernelIdeal_ReferenceIdeal := fun m g m' g' _ hagree =>
  ⟨Cert.KernelIdeal.Pf.refVal (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono (fun _ h c => ⟨(h.1 c).2.2.2.trans
        (Cert.KernelIdeal.Pf.outVal_eq m _ _ _ (fun c => (hagree c).1) (fun c => (hagree c).2.1) (fun c => (hagree c).2.2)),
        (h.1 c).1, (h.1 c).2.1, (h.1 c).2.2.1⟩)
      (Cert.KernelIdeal.Pf.run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
